-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 4, 64]⟩ ⟨4, ![2, 128, 64, 64]⟩ 2 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 128, 64, 64]⟩ 2 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x4096 : Shape := ⟨2, ![512, 4096]⟩
abbrev S2x128x4x64 : Shape := ⟨4, ![2, 128, 4, 64]⟩
abbrev S4096x512 : Shape := ⟨2, ![4096, 512]⟩
abbrev S512x16x256 : Shape := ⟨3, ![512, 16, 256]⟩
abbrev S16x256x512 : Shape := ⟨3, ![16, 256, 512]⟩
abbrev S256x512 : Shape := ⟨2, ![256, 512]⟩
abbrev S3x64x512 : Shape := ⟨3, ![3, 64, 512]⟩
abbrev S512x1x256 : Shape := ⟨3, ![512, 1, 256]⟩
abbrev S1x256x512 : Shape := ⟨3, ![1, 256, 512]⟩
abbrev S2 : Shape := ⟨1, ![2]⟩
abbrev S3 : Shape := ⟨1, ![3]⟩
abbrev S1 : Shape := ⟨1, ![1]⟩
abbrev S_ : Shape := ⟨0, ![]⟩
abbrev S512x256 : Shape := ⟨2, ![512, 256]⟩
abbrev S256x256 : Shape := ⟨2, ![256, 256]⟩
abbrev S1x128x1x64 : Shape := ⟨4, ![1, 128, 1, 64]⟩
abbrev S128x64 : Shape := ⟨2, ![128, 64]⟩
abbrev S128x128 : Shape := ⟨2, ![128, 128]⟩
abbrev S128 : Shape := ⟨1, ![128]⟩
abbrev S128x1 : Shape := ⟨2, ![128, 1]⟩
abbrev S128x256 : Shape := ⟨2, ![128, 256]⟩
abbrev S1x64x512 : Shape := ⟨3, ![1, 64, 512]⟩
abbrev S64x512 : Shape := ⟨2, ![64, 512]⟩

abbrev nBuf : Space → Nat
  | .hbm => 8
  | .vmem => 9
  | .smem => 0
  | _ => 0

abbrev bufTy : (tb : Table) → Fin (tcTables nBuf tb) → BufTy
  | .hbm, ⟨0, _⟩ => ⟨S2x128x512, .f32⟩
  | .hbm, ⟨1, _⟩ => ⟨S512x4096, .f32⟩
  | .hbm, ⟨2, _⟩ => ⟨S2x128x4x64, .f32⟩
  | .hbm, ⟨3, _⟩ => ⟨S2x128x4x64, .f32⟩
  | .hbm, ⟨4, _⟩ => ⟨S4096x512, .f32⟩
  | .hbm, ⟨5, _⟩ => ⟨S512x16x256, .f32⟩
  | .hbm, ⟨6, _⟩ => ⟨S16x256x512, .f32⟩
  | .hbm, ⟨7, _⟩ => ⟨S2x128x512, .f32⟩
  | .local _ .vmem, ⟨0, _⟩ => ⟨S2x128x512, .f32⟩
  | .local _ .vmem, ⟨1, _⟩ => ⟨S2x128x4x64, .f32⟩
  | .local _ .vmem, ⟨2, _⟩ => ⟨S2x128x4x64, .f32⟩
  | .local _ .vmem, ⟨3, _⟩ => ⟨S2x128x512, .f32⟩
  | .local _ .vmem, ⟨4, _⟩ => ⟨S256x512, .f32⟩
  | .local _ .vmem, ⟨5, _⟩ => ⟨S3x64x512, .f32⟩
  | .local _ .vmem, ⟨6, _⟩ => ⟨S3x64x512, .f32⟩
  | .local _ .vmem, ⟨7, _⟩ => ⟨S512x1x256, .f32⟩
  | .local _ .vmem, ⟨8, _⟩ => ⟨S1x256x512, .f32⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  (ofTc nBuf bufTy 1 24 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_off1 (d0 : Dev nD) : Fin 3 → Nat :=
  let c0_i32_0 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1 : BitVec 32 := 0#32
  ![0, v2.toNat, 0]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_3 : BitVec 32 := 0#32
  let c0_i32_4 : BitVec 32 := 0#32
  ![v2.toNat, 0, 0]
def k0_dev1 (d0 : Dev nD) : Nat :=
  let c0_i32_10 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v5 : BitVec 32 := Scalar.subi v2 v3
  let c1_i32_5 : BitVec 32 := 1#32
  let v13 : BitVec 32 := Scalar.xori v3 c1_i32_5
  let v14 : BitVec 32 := Scalar.addi v5 v13
  let c1_i32_9 : BitVec 32 := 1#32
  let v18 : BitVec 32 := Scalar.muli v14 c1_i32_9
  let v19 : BitVec 32 := Scalar.addi c0_i32_10 v18
  v19.toNat
def k0_dev2 (d0 : Dev nD) : Nat :=
  let c0_i32_13 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v4 : BitVec 32 := Scalar.shrsi v2 c2_i32
  let c1_i32_6 : BitVec 32 := 1#32
  let v15 : BitVec 32 := Scalar.xori v4 c1_i32_6
  let c2_i32_7 : BitVec 32 := 2#32
  let v16 : BitVec 32 := Scalar.shli v15 c2_i32_7
  let c3_i32 : BitVec 32 := 3#32
  let v3 : BitVec 32 := Scalar.andi v2 c3_i32
  let v17 : BitVec 32 := Scalar.addi v16 v3
  let c1_i32_12 : BitVec 32 := 1#32
  let v20 : BitVec 32 := Scalar.muli v17 c1_i32_12
  let v21 : BitVec 32 := Scalar.addi c0_i32_13 v20
  v21.toNat
def k0_dev3 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v5 : BitVec 32 := Scalar.subi v2 v3
  let c2_i32_14 : BitVec 32 := 2#32
  let v22 : BitVec 32 := Scalar.xori v3 c2_i32_14
  let v23 : BitVec 32 := Scalar.addi v5 v22
  let c1_i32_18 : BitVec 32 := 1#32
  let v27 : BitVec 32 := Scalar.muli v23 c1_i32_18
  let v28 : BitVec 32 := Scalar.addi c0_i32_19 v27
  v28.toNat
def k0_dev4 (d0 : Dev nD) : Nat :=
  let c0_i32_22 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v4 : BitVec 32 := Scalar.shrsi v2 c2_i32
  let c2_i32_15 : BitVec 32 := 2#32
  let v24 : BitVec 32 := Scalar.xori v4 c2_i32_15
  let c2_i32_16 : BitVec 32 := 2#32
  let v25 : BitVec 32 := Scalar.shli v24 c2_i32_16
  let c3_i32 : BitVec 32 := 3#32
  let v3 : BitVec 32 := Scalar.andi v2 c3_i32
  let v26 : BitVec 32 := Scalar.addi v25 v3
  let c1_i32_21 : BitVec 32 := 1#32
  let v29 : BitVec 32 := Scalar.muli v26 c1_i32_21
  let v30 : BitVec 32 := Scalar.addi c0_i32_22 v29
  v30.toNat
def k0_dev5 (d0 : Dev nD) : Nat :=
  let c0_i32_28 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v5 : BitVec 32 := Scalar.subi v2 v3
  let c3_i32_23 : BitVec 32 := 3#32
  let v31 : BitVec 32 := Scalar.xori v3 c3_i32_23
  let v32 : BitVec 32 := Scalar.addi v5 v31
  let c1_i32_27 : BitVec 32 := 1#32
  let v36 : BitVec 32 := Scalar.muli v32 c1_i32_27
  let v37 : BitVec 32 := Scalar.addi c0_i32_28 v36
  v37.toNat
def k0_dev6 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v4 : BitVec 32 := Scalar.shrsi v2 c2_i32
  let c3_i32_24 : BitVec 32 := 3#32
  let v33 : BitVec 32 := Scalar.xori v4 c3_i32_24
  let c2_i32_25 : BitVec 32 := 2#32
  let v34 : BitVec 32 := Scalar.shli v33 c2_i32_25
  let c3_i32 : BitVec 32 := 3#32
  let v3 : BitVec 32 := Scalar.andi v2 c3_i32
  let v35 : BitVec 32 := Scalar.addi v34 v3
  let c1_i32_30 : BitVec 32 := 1#32
  let v38 : BitVec 32 := Scalar.muli v35 c1_i32_30
  let v39 : BitVec 32 := Scalar.addi c0_i32_31 v38
  v39.toNat
def k0_off3 (d0 : Dev nD) (c1_i32_150 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v215 : BitVec 32 := Scalar.xori v3 c1_i32_150
  let c64_i32_151 : BitVec 32 := 64#32
  let v216 : BitVec 32 := Scalar.muli v215 c64_i32_151
  let c0_i32_160 : BitVec 32 := 0#32
  ![v216.toNat, 0]
def k0_dev7 (d0 : Dev nD) : Nat :=
  let c0_i32_157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v5 : BitVec 32 := Scalar.subi v2 v3
  let c1_i32_152 : BitVec 32 := 1#32
  let v217 : BitVec 32 := Scalar.xori v3 c1_i32_152
  let v218 : BitVec 32 := Scalar.addi v5 v217
  let c1_i32_156 : BitVec 32 := 1#32
  let v219 : BitVec 32 := Scalar.muli v218 c1_i32_156
  let v220 : BitVec 32 := Scalar.addi c0_i32_157 v219
  v220.toNat
def k0_dev8 (d0 : Dev nD) : Nat :=
  let c0_i32_168 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v5 : BitVec 32 := Scalar.subi v2 v3
  let c2_i32_163 : BitVec 32 := 2#32
  let v230 : BitVec 32 := Scalar.xori v3 c2_i32_163
  let v231 : BitVec 32 := Scalar.addi v5 v230
  let c1_i32_167 : BitVec 32 := 1#32
  let v232 : BitVec 32 := Scalar.muli v231 c1_i32_167
  let v233 : BitVec 32 := Scalar.addi c0_i32_168 v232
  v233.toNat
def k0_dev9 (d0 : Dev nD) : Nat :=
  let c0_i32_179 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v5 : BitVec 32 := Scalar.subi v2 v3
  let c3_i32_174 : BitVec 32 := 3#32
  let v243 : BitVec 32 := Scalar.xori v3 c3_i32_174
  let v244 : BitVec 32 := Scalar.addi v5 v243
  let c1_i32_178 : BitVec 32 := 1#32
  let v245 : BitVec 32 := Scalar.muli v244 c1_i32_178
  let v246 : BitVec 32 := Scalar.addi c0_i32_179 v245
  v246.toNat
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let c64_i32 : BitVec 32 := 64#32
  let v214 : BitVec 32 := Scalar.muli v3 c64_i32
  let v275 : Index := Scalar.indexCast v214
  let c0_207 : Index := 0#32
  ![v275.toNat, 0]
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let c64_i32 : BitVec 32 := 64#32
  let v214 : BitVec 32 := Scalar.muli v3 c64_i32
  let c0_i32_248 : BitVec 32 := 0#32
  ![v214.toNat, 0]
def k0_dev10 (d0 : Dev nD) : Nat :=
  let c0_i32_245 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v4 : BitVec 32 := Scalar.shrsi v2 c2_i32
  let c1_i32_239 : BitVec 32 := 1#32
  let v305 : BitVec 32 := Scalar.xori v4 c1_i32_239
  let c2_i32_240 : BitVec 32 := 2#32
  let v306 : BitVec 32 := Scalar.shli v305 c2_i32_240
  let c3_i32 : BitVec 32 := 3#32
  let v3 : BitVec 32 := Scalar.andi v2 c3_i32
  let v307 : BitVec 32 := Scalar.addi v306 v3
  let c1_i32_244 : BitVec 32 := 1#32
  let v308 : BitVec 32 := Scalar.muli v307 c1_i32_244
  let v309 : BitVec 32 := Scalar.addi c0_i32_245 v308
  v309.toNat
def k0_dev11 (d0 : Dev nD) : Nat :=
  let c0_i32_255 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v4 : BitVec 32 := Scalar.shrsi v2 c2_i32
  let c2_i32_249 : BitVec 32 := 2#32
  let v317 : BitVec 32 := Scalar.xori v4 c2_i32_249
  let c2_i32_250 : BitVec 32 := 2#32
  let v318 : BitVec 32 := Scalar.shli v317 c2_i32_250
  let c3_i32 : BitVec 32 := 3#32
  let v3 : BitVec 32 := Scalar.andi v2 c3_i32
  let v319 : BitVec 32 := Scalar.addi v318 v3
  let c1_i32_254 : BitVec 32 := 1#32
  let v320 : BitVec 32 := Scalar.muli v319 c1_i32_254
  let v321 : BitVec 32 := Scalar.addi c0_i32_255 v320
  v321.toNat
def k0_dev12 (d0 : Dev nD) : Nat :=
  let c0_i32_265 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v4 : BitVec 32 := Scalar.shrsi v2 c2_i32
  let c3_i32_259 : BitVec 32 := 3#32
  let v329 : BitVec 32 := Scalar.xori v4 c3_i32_259
  let c2_i32_260 : BitVec 32 := 2#32
  let v330 : BitVec 32 := Scalar.shli v329 c2_i32_260
  let c3_i32 : BitVec 32 := 3#32
  let v3 : BitVec 32 := Scalar.andi v2 c3_i32
  let v331 : BitVec 32 := Scalar.addi v330 v3
  let c1_i32_264 : BitVec 32 := 1#32
  let v332 : BitVec 32 := Scalar.muli v331 c1_i32_264
  let v333 : BitVec 32 := Scalar.addi c0_i32_265 v332
  v333.toNat
def k0_dev13 (d0 : Dev nD) : Nat :=
  let c0_i32_329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v5 : BitVec 32 := Scalar.subi v2 v3
  let c1_i32_325 : BitVec 32 := 1#32
  let v392 : BitVec 32 := Scalar.xori v3 c1_i32_325
  let v393 : BitVec 32 := Scalar.addi v5 v392
  let c1_i32_328 : BitVec 32 := 1#32
  let v394 : BitVec 32 := Scalar.muli v393 c1_i32_328
  let v395 : BitVec 32 := Scalar.addi c0_i32_329 v394
  v395.toNat
def k0_dev14 (d0 : Dev nD) : Nat :=
  let c0_i32_336 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v5 : BitVec 32 := Scalar.subi v2 v3
  let c2_i32_332 : BitVec 32 := 2#32
  let v402 : BitVec 32 := Scalar.xori v3 c2_i32_332
  let v403 : BitVec 32 := Scalar.addi v5 v402
  let c1_i32_335 : BitVec 32 := 1#32
  let v404 : BitVec 32 := Scalar.muli v403 c1_i32_335
  let v405 : BitVec 32 := Scalar.addi c0_i32_336 v404
  v405.toNat
def k0_dev15 (d0 : Dev nD) : Nat :=
  let c0_i32_343 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v3 : BitVec 32 := Scalar.andi v2 c3_i32
  let v5 : BitVec 32 := Scalar.subi v2 v3
  let c3_i32_339 : BitVec 32 := 3#32
  let v412 : BitVec 32 := Scalar.xori v3 c3_i32_339
  let v413 : BitVec 32 := Scalar.addi v5 v412
  let c1_i32_342 : BitVec 32 := 1#32
  let v414 : BitVec 32 := Scalar.muli v413 c1_i32_342
  let v415 : BitVec 32 := Scalar.addi c0_i32_343 v414
  v415.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x128x4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x128x512 : Shape := ⟨3, ![2, 128, 512]⟩
abbrev S512x4096 : Shape := ⟨2, ![512, 4096]⟩
abbrev S2x128x64x64 : Shape := ⟨4, ![2, 128, 64, 64]⟩
abbrev S4096x512 : Shape := ⟨2, ![4096, 512]⟩
abbrev S2x128x4096 : Shape := ⟨3, ![2, 128, 4096]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S2x64x128x128 : Shape := ⟨4, ![2, 64, 128, 128]⟩
abbrev S1x1x128x128 : Shape := ⟨4, ![1, 1, 128, 128]⟩
abbrev S2x64x128 : Shape := ⟨3, ![2, 64, 128]⟩
abbrev S2x64x128x1 : Shape := ⟨4, ![2, 64, 128, 1]⟩
abbrev S1x1x128x1 : Shape := ⟨4, ![1, 1, 128, 1]⟩
abbrev S2x64x64x128 : Shape := ⟨4, ![2, 64, 64, 128]⟩

abbrev nBuf : Space → Nat
  | .hbm => 57
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S512x4096, .f32⟩
  | .hbm, ⟨2, _⟩ => ⟨S2x128x64x64, .f32⟩
  | .hbm, ⟨3, _⟩ => ⟨S2x128x64x64, .f32⟩
  | .hbm, ⟨4, _⟩ => ⟨S4096x512, .f32⟩
  | .hbm, ⟨5, _⟩ => ⟨S2x128x4096, .f32⟩
  | .hbm, ⟨6, _⟩ => ⟨S2x128x64x64, .f32⟩
  | .hbm, ⟨7, _⟩ => ⟨S128, .i32⟩
  | .hbm, ⟨8, _⟩ => ⟨S128x1, .i32⟩
  | .hbm, ⟨9, _⟩ => ⟨S128, .i32⟩
  | .hbm, ⟨10, _⟩ => ⟨S1x128, .i32⟩
  | .hbm, ⟨11, _⟩ => ⟨S128x128, .i32⟩
  | .hbm, ⟨12, _⟩ => ⟨S128x128, .i32⟩
  | .hbm, ⟨13, _⟩ => ⟨S128x128, .i32⟩
  | .hbm, ⟨14, _⟩ => ⟨S128x128, .i32⟩
  | .hbm, ⟨15, _⟩ => ⟨S_, .i32⟩
  | .hbm, ⟨16, _⟩ => ⟨S128x128, .i32⟩
  | .hbm, ⟨17, _⟩ => ⟨S128x128, .i1⟩
  | .hbm, ⟨18, _⟩ => ⟨S2x64x128x128, .f32⟩
  | .hbm, ⟨19, _⟩ => ⟨S_, .f32⟩
  | .hbm, ⟨20, _⟩ => ⟨S2x64x128x128, .f32⟩
  | .hbm, ⟨21, _⟩ => ⟨S2x64x128x128, .f32⟩
  | .hbm, ⟨22, _⟩ => ⟨S1x1x128x128, .i1⟩
  | .hbm, ⟨23, _⟩ => ⟨S_, .f32⟩
  | .hbm, ⟨24, _⟩ => ⟨S_, .f32⟩
  | .hbm, ⟨25, _⟩ => ⟨S2x64x128x128, .i1⟩
  | .hbm, ⟨26, _⟩ => ⟨S2x64x128x128, .f32⟩
  | .hbm, ⟨27, _⟩ => ⟨S2x64x128x128, .f32⟩
  | .hbm, ⟨28, _⟩ => ⟨S_, .f32⟩
  | .hbm, ⟨29, _⟩ => ⟨S2x64x128, .f32⟩
  | .hbm, ⟨30, _⟩ => ⟨S2x64x128x1, .f32⟩
  | .hbm, ⟨31, _⟩ => ⟨S2x64x128x128, .f32⟩
  | .hbm, ⟨32, _⟩ => ⟨S2x64x128x128, .f32⟩
  | .hbm, ⟨33, _⟩ => ⟨S2x64x128x128, .f32⟩
  | .hbm, ⟨34, _⟩ => ⟨S_, .i1⟩
  | .hbm, ⟨35, _⟩ => ⟨S128, .i1⟩
  | .hbm, ⟨36, _⟩ => ⟨S1x1x128x1, .i1⟩
  | .hbm, ⟨37, _⟩ => ⟨S_, .f32⟩
  | .hbm, ⟨38, _⟩ => ⟨S2x64x128, .f32⟩
  | .hbm, ⟨39, _⟩ => ⟨S2x64x128x1, .f32⟩
  | .hbm, ⟨40, _⟩ => ⟨S_, .f32⟩
  | .hbm, ⟨41, _⟩ => ⟨S_, .f32⟩
  | .hbm, ⟨42, _⟩ => ⟨S2x64x128x1, .i1⟩
  | .hbm, ⟨43, _⟩ => ⟨S2x64x128x1, .f32⟩
  | .hbm, ⟨44, _⟩ => ⟨S2x64x128x1, .f32⟩
  | .hbm, ⟨45, _⟩ => ⟨S2x64x128x128, .f32⟩
  | .hbm, ⟨46, _⟩ => ⟨S2x64x128x128, .f32⟩
  | .hbm, ⟨47, _⟩ => ⟨S1x1x128x1, .i1⟩
  | .hbm, ⟨48, _⟩ => ⟨S_, .f32⟩
  | .hbm, ⟨49, _⟩ => ⟨S_, .f32⟩
  | .hbm, ⟨50, _⟩ => ⟨S2x64x128x128, .i1⟩
  | .hbm, ⟨51, _⟩ => ⟨S2x64x128x128, .f32⟩
  | .hbm, ⟨52, _⟩ => ⟨S2x64x128x128, .f32⟩
  | .hbm, ⟨53, _⟩ => ⟨S2x64x64x128, .f32⟩
  | .hbm, ⟨54, _⟩ => ⟨S2x128x64x64, .f32⟩
  | .hbm, ⟨55, _⟩ => ⟨S2x128x4096, .f32⟩
  | .hbm, ⟨56, _⟩ => ⟨S2x128x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Proof.Proto.lean ====
/-
  The protocol of the kernel, as data: which device talks to which, through which views, on which semaphores, and what
  each completed transfer hands over.

  Sixteen devices, four planes of four. Device `c` sits in plane `c / 4` at place `c % 4`. Its six partners are the three
  other devices of its plane (numbers 0, 1, 2) and the three devices at its place in the other planes (3, 4, 5).
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Regions
public import Idealize.ShloMosaic.Lib.Pipeline.RegionTalk
public import Idealize.ShloMosaic.Lib.Pipeline.Kit
public import Idealize.ShloMosaic.Lib.Rounds
public import Idealize.ShloMosaic.Lib.StableHlo
public import Idealize.ShloMosaic.Lib.Tactic
public import Idealize.ShloMosaic.Lib.VecWindow
public import Idealize.ShloMosaic.Harness.Basic

@[expose] public section

noncomputable section

namespace Cert.KernelIdeal.Cross

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

/-! ## Partners -/

/-- Partner number `j` of device `c`. -/
def peer (j : Fin 6) (c : Dev nD) : Dev nD :=
  if j.val < 3 then Fin.ofNat 16 (c.val / 4 * 4 + ((c.val % 4) ^^^ (j.val + 1)))
  else Fin.ofNat 16 (((c.val / 4) ^^^ (j.val - 2)) * 4 + c.val % 4)

/-- A device's place in its plane: the block of rows it is in charge of. -/
def place (c : Dev nD) : Fin 4 := Fin.ofNat 4 c.val

/-- The block other than `b` that partner number `o` of `b`'s plane is in charge of. -/
def other (o : Fin 3) (b : Fin 4) : Fin 4 := Fin.ofNat 4 (b.val ^^^ (o.val + 1))

/-- Plane partner `o`, as one of the six. -/
abbrev near (o : Fin 3) : Fin 6 := ⟨o.val, by omega⟩
/-- Partner `o` across the planes, as one of the six. -/
abbrev far (o : Fin 3) : Fin 6 := ⟨3 + o.val, by omega⟩

/-- A device is its partner's partner, under the same number. -/
theorem peer_peer : ∀ (j : Fin 6) (c : Dev nD), peer j (peer j c) = c := by decide +kernel
/-- A plane partner's block. -/
theorem place_near : ∀ (o : Fin 3) (c : Dev nD), place (peer (near o) c) = other o (place c) := by decide +kernel
/-- Taking the other block with a given number twice leads back. -/
theorem other_other : ∀ (o : Fin 3) (b : Fin 4), other o (other o b) = b := by decide +kernel
/-- A partner across the planes has the same place. -/
theorem place_far : ∀ (o : Fin 3) (c : Dev nD), place (peer (far o) c) = place c := by decide +kernel

/-- Taking the partner with a given number is a bijection of the devices. -/
def swap (j : Fin 6) : Dev nD ≃ Dev nD := ⟨peer j, peer j, peer_peer j, peer_peer j⟩

/-! The fifteen device ids the kernel computes. -/

theorem dev1_eq (c : Dev nD) : (⟨k0_dev1 c, k0_dev1_lt c⟩ : Dev nD) = peer 0 c := by revert c; decide +kernel
theorem dev2_eq (c : Dev nD) : (⟨k0_dev2 c, k0_dev2_lt c⟩ : Dev nD) = peer 3 c := by revert c; decide +kernel
theorem dev3_eq (c : Dev nD) : (⟨k0_dev3 c, k0_dev3_lt c⟩ : Dev nD) = peer 1 c := by revert c; decide +kernel
theorem dev4_eq (c : Dev nD) : (⟨k0_dev4 c, k0_dev4_lt c⟩ : Dev nD) = peer 4 c := by revert c; decide +kernel
theorem dev5_eq (c : Dev nD) : (⟨k0_dev5 c, k0_dev5_lt c⟩ : Dev nD) = peer 2 c := by revert c; decide +kernel
theorem dev6_eq (c : Dev nD) : (⟨k0_dev6 c, k0_dev6_lt c⟩ : Dev nD) = peer 5 c := by revert c; decide +kernel
theorem dev7_eq (c : Dev nD) : (⟨k0_dev7 c, k0_dev7_lt c⟩ : Dev nD) = peer (near 0) c := by revert c; decide +kernel
theorem dev8_eq (c : Dev nD) : (⟨k0_dev8 c, k0_dev8_lt c⟩ : Dev nD) = peer (near 1) c := by revert c; decide +kernel
theorem dev9_eq (c : Dev nD) : (⟨k0_dev9 c, k0_dev9_lt c⟩ : Dev nD) = peer (near 2) c := by revert c; decide +kernel
theorem dev10_eq (c : Dev nD) : (⟨k0_dev10 c, k0_dev10_lt c⟩ : Dev nD) = peer (far 0) c := by revert c; decide +kernel
theorem dev11_eq (c : Dev nD) : (⟨k0_dev11 c, k0_dev11_lt c⟩ : Dev nD) = peer (far 1) c := by revert c; decide +kernel
theorem dev12_eq (c : Dev nD) : (⟨k0_dev12 c, k0_dev12_lt c⟩ : Dev nD) = peer (far 2) c := by revert c; decide +kernel
theorem dev13_eq (c : Dev nD) : (⟨k0_dev13 c, k0_dev13_lt c⟩ : Dev nD) = peer (near 0) c := by revert c; decide +kernel
theorem dev14_eq (c : Dev nD) : (⟨k0_dev14 c, k0_dev14_lt c⟩ : Dev nD) = peer (near 1) c := by revert c; decide +kernel
theorem dev15_eq (c : Dev nD) : (⟨k0_dev15 c, k0_dev15_lt c⟩ : Dev nD) = peer (near 2) c := by revert c; decide +kernel

/-! The offsets of the row blocks the kernel computes. -/

theorem off3_eq : ∀ (c : Dev nD) (r : Fin 3),
    k0_off3 c (BitVec.ofNat 32 (1 + r.val)) = ![64 * (other r (place c)).val, 0] := by decide +kernel
theorem off4_eq : ∀ c : Dev nD, k0_off4 c = ![64 * (place c).val, 0] := by decide +kernel
theorem off5_eq : ∀ c : Dev nD, k0_off5 c = ![64 * (place c).val, 0] := by decide +kernel

/-! ## Views -/

theorem rows_inb (b : Fin 4) : ∀ a, (![64 * b.val, 0] : Fin 2 → ℕ) a + S64x512.size a ≤ S256x512.size a := by
  revert b; decide

/-- The rectangle of row block `b`. -/
abbrev rowsRect (b : Fin 4) : Rect S256x512 := Rect.unit (s := S256x512) ![64 * b.val, 0] S64x512.size (rows_inb b)

/-- The accumulator, whole. -/
abbrev accM : Memref sig .tc .vmem S256x512 .f32 := Memref.whole cc0_scratch0
/-- Row block `b` of the accumulator. -/
abbrev rowsM (b : Fin 4) : Memref sig .tc .vmem S64x512 .f32 := accM.slice (rowsRect b) (fun _ => rfl)

theorem slot_inb (o : Fin 3) : ∀ a, (![o.val, 0, 0] : Fin 3 → ℕ) a + S1x64x512.size a ≤ S3x64x512.size a := by
  revert o; decide

/-- The rectangle of landing slot `o`. -/
abbrev slotRect (o : Fin 3) : Rect S3x64x512 := Rect.unit (s := S3x64x512) ![o.val, 0, 0] S1x64x512.size (slot_inb o)
/-- The landing slots for the plane partners, whole. -/
abbrev pslabM : Memref sig .tc .vmem S3x64x512 .f32 := Memref.whole cc0_scratch1
/-- The landing slots for the partners across the planes, whole. -/
abbrev zslabM : Memref sig .tc .vmem S3x64x512 .f32 := Memref.whole cc0_scratch2
/-- Slot `o` for a plane partner. -/
abbrev pslot (o : Fin 3) : Memref sig .tc .vmem S64x512 .f32 :=
  (pslabM.slice (slotRect o) (fun _ => rfl)).squeeze S64x512 squeezes_S1x64x512_S64x512
/-- Slot `o` for a partner across the planes. -/
abbrev zslot (o : Fin 3) : Memref sig .tc .vmem S64x512 .f32 :=
  (zslabM.slice (slotRect o) (fun _ => rfl)).squeeze S64x512 squeezes_S1x64x512_S64x512

/-- The device's slice of the query weights, in main memory, and where it is copied to. -/
abbrev wqM (c : Dev nD) : Memref sig .tc .hbm S512x1x256 .f32 :=
  (Memref.whole main_v1).slice (Rect.unit (s := S512x16x256) (k0_off1 c) S512x1x256.size (k0_off1_inb c)) (fun _ => rfl)
abbrev wqS : Memref sig .tc .vmem S512x1x256 .f32 := Memref.whole cc0_scratch3
/-- The device's slice of the output weights, in main memory, and where it is copied to. -/
abbrev woM (c : Dev nD) : Memref sig .tc .hbm S1x256x512 .f32 :=
  (Memref.whole main_v2).slice (Rect.unit (s := S16x256x512) (k0_off2 c) S1x256x512.size (k0_off2_inb c)) (fun _ => rfl)
abbrev woS : Memref sig .tc .vmem S1x256x512 .f32 := Memref.whole cc0_scratch4

/-- Two unit rectangles of one buffer and one size, at equal offsets, cut the same memref. -/
theorem slice_off {κ : Kind} {sp : Space} {s : Shape} {e : EltTy} (mr : Memref sig κ sp s e) {t : Shape} {u v : Fin s.rank → ℕ}
    (h : u = v) (z : Fin s.rank → ℕ) (hu : ∀ a, u a + z a ≤ s.size a) (hv : ∀ a, v a + z a ≤ s.size a)
    (hd : ∀ a, (Rect.unit (s := s) u z hu).stride a = 1) (hd' : ∀ a, (Rect.unit (s := s) v z hv).stride a = 1) :
    mr.slice (Rect.unit (s := s) u z hu) hd = mr.slice (Rect.unit (s := s) v z hv) (by subst h; exact hd) := by
  subst h; rfl

/-! ## Resources -/

abbrev UB : Type := URounds (GSem nD τ sig) (Fin 6)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- Device `c` holds the memref `mr` at the value `X`, with share `q`. -/
abbrev own (c : Dev nD) {sp : Space} {s : Shape} {e : EltTy} (mr : Memref sig .tc sp s e) (q : PosShare TreeShare) (X : Vec F s e) :
    sProp 𝕄 := mr.view.loc (c : Thread nD τ) ↦[mr.view.set]{q} mr.view.rep X

/-- Device `c` holds the memref `mr` entirely, at contents nobody has chosen. -/
abbrev junk (c : Dev nD) {sp : Space} {s : Shape} {e : EltTy} (mr : Memref sig .tc sp s e) : sProp 𝕄 :=
  iprop(∃ f : Buf (Elt F) (mr.view.loc (c : Thread nD τ)), mr.view.loc (c : Thread nD τ) ↦[mr.view.set]{fullShare} f)

/-- The memref slot a device keeps for its partner number `j`. -/
abbrev slotM : Fin 6 → Memref sig .tc .vmem S64x512 .f32
  | 0 => pslot 0 | 1 => pslot 1 | 2 => pslot 2 | 3 => zslot 0 | 4 => zslot 1 | 5 => zslot 2

/-- The DMA semaphore number `k`. -/
abbrev dmaNo (k : Fin 24) : DmaSem sig := k
/-- Semaphore `s` of device `c`. -/
abbrev cell (c : Dev nD) (s : SemLoc sig) : GSem nD τ sig := ((c : Thread nD τ), s)
abbrev barCell (c : Dev nD) : GSem nD τ sig := cell c (.reg barrier0)
/-- The cell of DMA semaphore `k` of device `c`. -/
abbrev dCell (c : Dev nD) (k : Fin 24) : GSem nD τ sig := cell c (.dma (dmaNo k))

/-- The semaphore on which what lands in the slot for partner `j` is counted. -/
def slotSem (j : Fin 6) : Fin 24 := if j.val < 3 then ⟨9 + j.val, by omega⟩ else ⟨12 + j.val, by omega⟩
/-- The semaphore on which the finished block of plane partner `j` is counted. -/
def backSem (j : Fin 6) : Fin 24 := ⟨21 + j.val % 3, by omega⟩

/-- The three parts a source is shared out in while three copies read it. -/
def part : Fin 3 → PosShare TreeShare
  | 0 => fullShare.left | 1 => fullShare.right.left | 2 => fullShare.right.right

/-! ## Values -/

/-- What the run is about: the two weight arrays and the partial product, device by device. -/
structure Vals (F : FTy → Type) where
  wq : Dev nD → Vec F S512x16x256 .f32
  wo : Dev nD → Vec F S16x256x512 .f32
  T : Dev nD → Vec F S256x512 .f32

/-- Row block `b` of a 256-row array. -/
def blk (X : Vec F S256x512 .f32) (b : Fin 4) : Vec F S64x512 .f32 := fun i => X ((rowsRect b).idx i)
/-- A block with the leading unit axis a slot has. -/
def up (X : Vec F S64x512 .f32) : Vec F S1x64x512 .f32 := shapeCast S1x64x512 X (by decide)

/-- After the exchange in the plane: the device's block, summed over its plane. -/
def A1 (v : Vals F) (c : Dev nD) : Vec F S64x512 .f32 :=
  k0_pay15 (blk (v.T c) (place c)) (up (blk (v.T (peer (near 0) c)) (place c))) (up (blk (v.T (peer (near 1) c)) (place c)))
    (up (blk (v.T (peer (near 2) c)) (place c)))
/-- After the exchange across the planes: the device's block, summed over all devices. -/
def A2 (v : Vals F) (c : Dev nD) : Vec F S64x512 .f32 :=
  k0_pay16 (A1 v c) (up (A1 v (peer (far 0) c))) (up (A1 v (peer (far 1) c))) (up (A1 v (peer (far 2) c)))

/-- The device of `c`'s plane in charge of block `b`. -/
def owner (c : Dev nD) (b : Fin 4) : Dev nD := Fin.ofNat 16 (c.val / 4 * 4 + b.val)
theorem owner_place : ∀ c : Dev nD, owner c (place c) = c := by decide +kernel
theorem owner_other : ∀ (o : Fin 3) (c : Dev nD), owner c (other o (place c)) = peer (near o) c := by decide +kernel

/-! ## What each completed transfer hands over -/

/-- The barrier unit of partner `j`: that partner's slot, and that its counters are at their first round. -/
def barPay (c : Dev nD) (j : Fin 6) : sProp 𝕄 :=
  iprop(junk (peer j c) (slotM j) ∗ reached ER (dCell (peer j c) (slotSem j)) 0 ∗ reached ER (dCell (peer j c) (backSem j)) 0)

/-- The weights copied in, and their slices in main memory back. -/
def wqPay (v : Vals F) (c : Dev nD) : sProp 𝕄 :=
  iprop(own c wqS fullShare ((wqM c).view.read (Elt F) (v.wq c)) ∗ ((wqM c).view.loc (c : Thread nD τ) ↦[(wqM c).view.set]{fullShare} v.wq c))
def woPay (v : Vals F) (c : Dev nD) : sProp 𝕄 :=
  iprop(own c woS fullShare ((woM c).view.read (Elt F) (v.wo c)) ∗ ((woM c).view.loc (c : Thread nD τ) ↦[(woM c).view.set]{fullShare} v.wo c))

/-- A plane partner's partial block in its slot, and the rows it was read from: the finished block will be written there. -/
def prsPay (v : Vals F) (o : Fin 3) (c : Dev nD) : sProp 𝕄 :=
  iprop(own c (pslot o) fullShare (blk (v.T (peer (near o) c)) (place c)) ∗ junk (peer (near o) c) (rowsM (place c)))
/-- The share of the own rows one copy read. -/
def lentPay (o : Fin 3) (X : Dev nD → Vec F S64x512 .f32) (c : Dev nD) : sProp 𝕄 := own c (rowsM (place c)) (part o) (X c)
/-- The block summed over another plane in its slot. -/
def zbPay (v : Vals F) (o : Fin 3) (c : Dev nD) : sProp 𝕄 := own c (zslot o) fullShare (A1 v (peer (far o) c))
/-- The finished block of a plane partner in its rows. -/
def pagPay (v : Vals F) (o : Fin 3) (c : Dev nD) : sProp 𝕄 :=
  own c (rowsM (other o (place c))) fullShare (A2 v (peer (near o) c))

/-- What the one transfer counted on DMA semaphore `k` of device `c` hands over. -/
def dmaPay (v : Vals F) (k : Fin 24) (c : Dev nD) : sProp 𝕄 :=
  match k.val with
  | 4 => wqPay v c | 5 => woPay v c
  | 9 => prsPay v 0 c | 10 => prsPay v 1 c | 11 => prsPay v 2 c
  | 12 => lentPay 0 (A1 v) c | 13 => lentPay 1 (A1 v) c | 14 => lentPay 2 (A1 v) c
  | 15 => zbPay v 0 c | 16 => zbPay v 1 c | 17 => zbPay v 2 c
  | 18 => lentPay 0 (A2 v) c | 19 => lentPay 1 (A2 v) c | 20 => lentPay 2 (A2 v) c
  | 21 => pagPay v 0 c | 22 => pagPay v 1 c | 23 => pagPay v 2 c
  | _ => iprop(emp)

/-- Credits of one block transfer. -/
def NB : ℕ := (rowsM 0).view.dmaCredit
/-- Credits of the transfer counted on DMA semaphore `k`. -/
def creditOf (k : Fin 24) : ℕ := if k = 4 then wqS.view.dmaCredit else if k = 5 then woS.view.dmaCredit else NB

theorem creditOf_pos (k : Fin 24) : 0 < creditOf k := by
  unfold creditOf NB
  split
  · exact View.dmaCredit_pos _ (by decide)
  · split <;> exact View.dmaCredit_pos _ (by decide)

/-- The schedule: one round. Six units on every barrier, one transfer on each of the kernel's own twenty DMA semaphores. -/
def plan (v : Vals F) : Rounds.Schedule (GSem nD τ sig) (Fin 6) 𝕄 where
  duties g r := if r = 0 ∧ g.1.2 = .tc then (match g.2 with | .reg _ => Finset.univ | .dma _ => {0}) else ∅
  unitless _ := False
  amount g _ _ := match g.2 with | .reg _ => 1 | .dma k => creditOf k
  payload g _ d := match g.2 with | .reg _ => barPay g.1.1 d | .dma k => dmaPay v k g.1.1
  amount_pos g _ _ _ := by
    rcases g with ⟨_, s | k⟩
    · exact Nat.one_pos
    · exact creditOf_pos k

instance barPay_storable (c : Dev nD) (j : Fin 6) : BI.Storable (upEmb : UEmb _ 𝕄) (barPay (F := F) c j) := by
  unfold barPay; infer_instance

instance dmaPay_storable (v : Vals F) (k : Fin 24) (c : Dev nD) : BI.Storable (upEmb : UEmb _ 𝕄) (dmaPay v k c) := by
  unfold dmaPay wqPay woPay prsPay lentPay zbPay pagPay
  split <;> infer_instance

instance plan_storable (v : Vals F) (g : GSem nD τ sig) (r : ℕ) (d : Fin 6) :
    BI.Storable (upEmb : UEmb _ 𝕄) ((plan v).payload g r d) := by
  rcases g with ⟨⟨c, i⟩, s | k⟩
  · exact barPay_storable c d
  · exact dmaPay_storable v k c

section Tables

variable (v : Vals F) (c : Dev nD)

theorem duties_bar : (plan v).duties (barCell c) 0 = Finset.univ := rfl
theorem duties_dma (k : Fin 24) : (plan v).duties (dCell c k) 0 = {0} := rfl
theorem duties_after (g : GSem nD τ sig) : ∀ r, 1 ≤ r → (plan v).duties g r = ∅ :=
  fun r hr => if_neg fun h => absurd h.1 (by omega)
theorem amount_bar (d : Fin 6) : (plan v).amount (barCell c) 0 d = 1 := rfl
theorem amount_dma (k : Fin 24) (d : Fin 6) : (plan v).amount (dCell c k) 0 d = creditOf k := rfl
theorem payload_bar (d : Fin 6) : (plan v).payload (barCell c) 0 d = barPay c d := rfl
theorem payload_dma (k : Fin 24) (d : Fin 6) : (plan v).payload (dCell c k) 0 d = dmaPay v k c := rfl

theorem expect_bar : (plan v).expect (barCell c) 0 = 6 := by
  unfold Schedule.expect Schedule.amountOf; rw [duties_bar]; simp only [amount_bar]; rfl
theorem expect_dma (k : Fin 24) : (plan v).expect (dCell c k) 0 = creditOf k := by
  unfold Schedule.expect Schedule.amountOf; rw [duties_dma, Finset.sum_singleton, amount_dma]

theorem rest_bar : bigSep ((plan v).duties (barCell c) 0 \ ∅) (fun d => (plan v).payload (barCell c) 0 d)
    = bigSep Finset.univ (fun j => barPay c j) := by rw [Finset.sdiff_empty, duties_bar]; rfl
theorem rest_dma (k : Fin 24) : bigSep ((plan v).duties (dCell c k) 0 \ ∅) (fun d => (plan v).payload (dCell c k) 0 d)
    = dmaPay v k c := by
  rw [Finset.sdiff_empty, duties_dma, bigSep_singleton, payload_dma]

end Tables

/-! ## What a device owes -/

/-- The partner each of the fifteen remote steps goes to, in program order. -/
abbrev obTo : Fin 15 → Fin 6 := ![0, 3, 1, 4, 2, 5, 0, 1, 2, 3, 4, 5, 0, 1, 2]
/-- The DMA semaphore each remote copy is counted on there (the first six steps are barrier signals). -/
abbrev obNo : Fin 15 → Fin 24 := ![0, 0, 0, 0, 0, 0, 9, 10, 11, 15, 16, 17, 21, 22, 23]
/-- The semaphore each remote step raises there. -/
def obSem (i : Fin 15) : SemLoc sig := if i.val < 6 then .reg barrier0 else .dma (dmaNo (obNo i))
/-- By how much. -/
def obAmt (i : Fin 15) : ℕ := if i.val < 6 then 1 else NB

/-- What remote step `i` of device `c` pays. -/
def ob (c : Dev nD) (i : Fin 15) : CellTallies nD τ sig Unit := tallyAt (cell (peer (obTo i) c) (obSem i)) () (obAmt i)

/-- What device `c` still owes before its remote step number `n`. -/
def Orem (c : Dev nD) (n : ℕ) : CellTallies nD τ sig Unit := ∑ i ∈ Finset.univ.filter (fun i : Fin 15 => n ≤ i.val), ob c i

theorem Orem_step (c : Dev nD) (i : Fin 15) : Orem c i.val = Orem c (i.val + 1) + ob c i := by
  unfold Orem
  have h : Finset.univ.filter (fun k : Fin 15 => i.val ≤ k.val)
      = insert i (Finset.univ.filter (fun k : Fin 15 => i.val + 1 ≤ k.val)) := by
    revert i; decide
  rw [h, Finset.sum_insert (by simp), add_comm]

theorem Orem_end (c : Dev nD) : Orem c 15 = 0 := by
  unfold Orem
  rw [show Finset.univ.filter (fun k : Fin 15 => 15 ≤ k.val) = ∅ from by decide]
  exact Finset.sum_empty

def L (g : GSem nD τ sig) : Finset Unit := if g.1.2 = .tc then {()} else ∅

/-- The order in which the counters are waited for. -/
def levNo (k : Fin 24) : ℕ :=
  if k.val < 9 then 0 else if k.val < 12 then 2 else if k.val < 15 then 0 else if k.val < 18 then 3 else if k.val < 21 then 0 else 4
def lv (g : GSem nD τ sig) (_ : Unit) : ℕ := match g.2 with | .reg _ => 1 | .dma k => levNo k

theorem L_of_ne (g : GSem nD τ sig) (h : g.1.2 ≠ .tc) : L g = ∅ := if_neg h
theorem L_tc (c : Dev nD) (s : SemLoc sig) : L (cell c s) = {()} := if_pos rfl

/-- The level of each remote step. -/
theorem lv_ob (c : Dev nD) (i : Fin 15) (u : Unit) :
    lv (cell (peer (obTo i) c) (obSem i)) u = if i.val < 6 then 1 else if i.val < 9 then 2 else if i.val < 12 then 3 else 4 := by
  cases u
  have : ∀ i : Fin 15, (if i.val < 6 then 1 else levNo (obNo i)) = if i.val < 6 then 1 else if i.val < 9 then 2 else if i.val < 12 then 3 else 4 := by
    decide
  rw [← this i]
  unfold obSem
  split <;> rfl

/-- What is still owed is owed at the place of a remote step still to be made. -/
theorem Orem_pos (c : Dev nD) (n : ℕ) (g : GSem nD τ sig) (u : Unit) (hg : 0 < Orem c n g u) :
    ∃ i : Fin 15, n ≤ i.val ∧ g = cell (peer (obTo i) c) (obSem i) := by
  by_contra hne
  have h0 : Orem c n g u = 0 := by
    unfold Orem
    rw [Finset.sum_apply, Finsupp.finset_sum_apply]
    refine Finset.sum_eq_zero fun i hi => ?_
    have hi' := (Finset.mem_filter.mp hi).2
    unfold ob
    rw [tallyAt_apply]
    exact if_neg fun h => hne ⟨i, hi', h.1⟩
  omega

/-- A device may wait on its own semaphore `s` when every remote step it still has to make is of a higher level. -/
theorem mayWait (c : Dev nD) (s : SemLoc sig) (n b : ℕ) (hs : lv (cell c s) () ≤ b)
    (hb : ∀ i : Fin 15, n ≤ i.val → b < if i.val < 6 then 1 else if i.val < 9 then 2 else if i.val < 12 then 3 else 4) :
    (levAts L lv : sProp 𝕄) ⊢ MayWait (c : Thread nD τ) s () (Orem c n) := by
  exact MayOwe.of_cut (L := L) (lev := lv) b
    (fun p hp => by rw [Finset.mem_singleton.mp hp, L_tc]; exact Finset.mem_singleton_self _)
    (fun g u hg => by
      obtain ⟨i, -, rfl⟩ := Orem_pos c n g u hg
      rw [L_tc]; exact Finset.mem_singleton_self _)
    (fun p hp => by rw [Finset.mem_singleton.mp hp]; exact hs)
    (fun g u hg => by
      obtain ⟨i, hi, rfl⟩ := Orem_pos c n g u hg
      rw [lv_ob]; exact hb i hi)

/-- What the launch asks of device `c`. -/
abbrev O₀ (c : Dev nD) : CellTallies nD τ sig Unit := Orem c 0

end Cert.KernelIdeal.Cross

end
-- ==== Proof.Steps.lean ====
/-
  One step of the protocol at a time, at a symbolic device: a barrier signal, a wait, a local copy, and the three kinds of
  remote copy. Each lemma is stated over the memrefs, devices and semaphores as the program computes them, with equations
  to the closed forms of Proto.lean.
-/
module

public import proofs.«01_k».proof.Proof.Proto

@[expose] public section

noncomputable section

namespace Cert.KernelIdeal.Cross

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

abbrev 𝒱₀ : Variants := Variants.none

/-- The kernel on device `c` runs `p` to the end and leaves `Q`. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The records every step reads -/

/-- The kernel's own semaphores: DMA semaphores 4 to 23. -/
abbrev osem : Fin 20 → SemLoc sig := fun k => .dma (dmaNo ⟨4 + k.val, by omega⟩)

theorem barCell_inj : Function.Injective (barCell : Dev nD → GSem nD τ sig) := fun a b h => by
  have := congrArg (fun g : GSem nD τ sig => g.1.1) h; exact this
theorem ownCell_inj : Function.Injective (fun p : Dev nD × Fin 20 => (cell p.1 (osem p.2) : GSem nD τ sig)) := fun a b h => by
  obtain ⟨a1, a2⟩ := a; obtain ⟨b1, b2⟩ := b
  have h1 : a1 = b1 := congrArg (fun g : GSem nD τ sig => g.1.1) h
  have h2 : (osem a2 : SemLoc sig) = osem b2 := congrArg (fun g : GSem nD τ sig => g.2) h
  have h3 : (⟨4 + a2.val, by omega⟩ : Fin 24) = ⟨4 + b2.val, by omega⟩ := by injection h2
  have h4 : a2 = b2 := Fin.ext (by have := congrArg Fin.val h3; simp only at this; omega)
  rw [h1, h4]

/-- All barrier cells, and all the kernel's own DMA cells. -/
def bars : Finset (GSem nD τ sig) := Finset.univ.map ⟨barCell, barCell_inj⟩
def owns : Finset (GSem nD τ sig) := Finset.univ.map ⟨fun p : Dev nD × Fin 20 => (cell p.1 (osem p.2) : GSem nD τ sig), ownCell_inj⟩

theorem mem_bars (c : Dev nD) : barCell c ∈ bars := Finset.mem_map.mpr ⟨c, Finset.mem_univ _, rfl⟩
theorem mem_owns (c : Dev nD) (k : Fin 24) (hk : 4 ≤ k.val) : dCell c k ∈ owns :=
  Finset.mem_map.mpr ⟨(c, ⟨k.val - 4, by omega⟩), Finset.mem_univ _, by
    show cell c (.dma (⟨4 + (k.val - 4), _⟩ : Fin 24)) = cell c (.dma k)
    congr 2; exact Fin.ext (by simp only; omega)⟩

/-- What every device knows throughout: every cell keeps its invariant, every barrier is at its first round, and the
    levels are as agreed. -/
def env (v : Vals F) (K : GSem nD τ sig → ℕ) : sProp 𝕄 :=
  iprop(bigSep (bars ∪ owns) (fun g => cellInv ER (plan v) (K g) g) ∗ bigSep bars (fun g => reached ER g 0) ∗ levAts L lv)

instance env_persistent (v : Vals F) (K : GSem nD τ sig → ℕ) : BI.Persistent (env v K) := by unfold env; infer_instance

theorem env_bar (v : Vals F) (K : GSem nD τ sig → ℕ) (c : Dev nD) :
    env v K ⊢ cellInv ER (plan v) (K (barCell c)) (barCell c) := by
  unfold env
  exact sep_elim_left.trans (bigSep_elim (Φ := fun g => cellInv ER (plan v) (K g) g) (Finset.mem_union_left _ (mem_bars c)))
theorem env_dma (v : Vals F) (K : GSem nD τ sig → ℕ) (c : Dev nD) (k : Fin 24) (hk : 4 ≤ k.val) :
    env v K ⊢ cellInv ER (plan v) (K (dCell c k)) (dCell c k) := by
  unfold env
  exact sep_elim_left.trans (bigSep_elim (Φ := fun g => cellInv ER (plan v) (K g) g) (Finset.mem_union_right _ (mem_owns c k hk)))
theorem env_reached (v : Vals F) (K : GSem nD τ sig → ℕ) (c : Dev nD) : env v K ⊢ reached ER (barCell c) 0 := by
  unfold env
  exact sep_elim_right.trans (sep_elim_left.trans (bigSep_elim (Φ := fun g => reached ER g 0) (mem_bars c)))
theorem env_lev (v : Vals F) (K : GSem nD τ sig → ℕ) : env v K ⊢ (levAts L lv : sProp 𝕄) := by
  unfold env
  iintro ⟨-, -, H⟩
  iexact H

theorem lv_bar (c : Dev nD) : lv (barCell c) () = 1 := rfl
theorem lv_dma (c : Dev nD) (k : Fin 24) : lv (dCell c k) () = levNo k := rfl

/-- A device knows when it may wait: see `mayWait`. -/
theorem env_mayWait (v : Vals F) (K : GSem nD τ sig → ℕ) (c : Dev nD) (s : SemLoc sig) (n b : ℕ) (hs : lv (cell c s) () ≤ b)
    (hb : ∀ i : Fin 15, n ≤ i.val → b < if i.val < 6 then 1 else if i.val < 9 then 2 else if i.val < 12 then 3 else 4) :
    env v K ⊢ MayWait (c : Thread nD τ) s () (Orem c n) := by
  iintro #He
  iapply (mayWait c s n b hs hb)
  unfold env
  icases He with ⟨-, -, H⟩
  iexact H

/-- Device `c` owes its remote steps from number `n` on, having waited wherever. -/
def owed (c : Dev nD) (n : ℕ) : sProp 𝕄 := iprop(∃ W, owes (c : Thread nD τ) (Orem c n) W)

/-! ## The barrier -/

/-- Remote step `i`, a barrier signal to partner `j`: it hands over the slot kept for that partner. -/
theorem step_signal (v : Vals F) (K : GSem nD τ sig → ℕ) (c : Dev nD) (i : Fin 15) (hi : i.val < 6) (j : Fin 6) (hj : obTo i = j)
    {dst : Dev nD} (hd : dst = peer j c) {α : Type} {k : PUnit → Prog (TpuEff nD τ sig (Elt F) Λ₀ .tc) α} {Q : α → sProp 𝕄} :
    iprop(env v K ∗ owed c i.val ∗ dutyTok ER (barCell (peer j c)) 0 j ∗ junk c (slotM j)
        ∗ reached ER (dCell c (slotSem j)) 0 ∗ reached ER (dCell c (backSem j)) 0)
      ⊢ iprop((owed c (i.val + 1) -∗ runs c (k ⟨⟩) Q) -∗ runs c (.op (.semSignal (Dev.tc dst) barrier0 1) k) Q) := by
  subst hd hj
  iintro ⟨#He, HO, Ht, Hs, Hr1, Hr2⟩ Hk
  unfold owed
  icases HO with ⟨%W, HO⟩
  iapply (Rounds.wp_signal 𝒱₀ ER (plan v) (c : Thread nD τ) none (dst := (peer (obTo i) c : Thread nD τ)) (sem := barrier0) (r := 0)
      (d := obTo i) (κ := K (barCell (peer (obTo i) c))) (by rw [duties_bar]; exact Finset.mem_univ _) (amount_bar v _ _) () (Orem c (i.val + 1))
      ((Orem_step c i).trans (by rw [ob, obSem, obAmt, if_pos hi, if_pos hi]))) $$ [HO Ht Hs Hr1 Hr2]
  · isplitr; · iapply (env_bar v K _); iexact He
    isplitl [HO]; · iexact HO
    isplitl [Ht]; · iexact Ht
    isplitl [Hs Hr1 Hr2]
    · rw [payload_bar]; unfold barPay; rw [peer_peer]
      isplitl [Hs]; · iexact Hs
      isplitl [Hr1] <;> iassumption
    · iapply (env_reached v K _); iexact He
  iintro HO
  iapply Hk
  iexists W; iexact HO

/-- Shutting a cell once its round is over: its counter, back at zero. -/
theorem shut (v : Vals F) (κ : ℕ) (g : GSem nD τ sig) :
    iprop(cellInv ER (plan v) κ g ∗ atPos ER g (0 + 1) ∅ 0) ⊢ (|={Set.univ}=> semVal g 0 : sProp 𝕄) :=
  Rounds.cell_close ER (plan v) (Set.mem_univ κ) id (duties_after v g)

/-- The wait on the barrier, after the six signals: the six partners' slots. -/
theorem step_barrier (v : Vals F) (K : GSem nD τ sig → ℕ) (c : Dev nD)
    {α : Type} {k : PUnit → Prog (TpuEff nD τ sig (Elt F) Λ₀ .tc) α} {Q : α → sProp 𝕄} :
    iprop(env v K ∗ owed c 6 ∗ cred (tallyAt (barCell c) () 6) ∗ atPos ER (barCell c) 0 ∅ 0)
      ⊢ iprop(((owed c 6 ∗ semVal (barCell c) 0 ∗ bigSep Finset.univ (fun j => barPay (F := F) c j)) -∗ runs c (k ⟨⟩) Q)
          -∗ runs c (.op (.semWait barrier0 6) k) Q) := by
  iintro ⟨#He, HO, Hc, Hat⟩ Hk
  unfold owed
  icases HO with ⟨%W, HO⟩
  iapply (Rounds.wp_wait_rest_token 𝒱₀ ER (plan v) (c : Thread nD τ) none (κ := K (barCell c))
      (wpE_semWait_eq 𝒱₀ (c : Thread nD τ) none Set.univ) (Set.mem_univ _) () (O := Orem c 6) (W := W) (R := 0) (m := 0) (T := ∅)
      ((Nat.zero_add 6).trans (expect_bar v c).symm)) $$ [Hc HO Hat]
  · isplitr; · iapply (env_bar v K _); iexact He
    isplitl [Hc]; · iexact Hc
    isplitl [HO]; · iexact HO
    isplitr
    · iapply (env_mayWait v K c (.reg barrier0) 6 1 (lv_bar c).le (by decide)); iexact He
    iexact Hat
  iintro ⟨HO, Hat, -, Hpay⟩
  ihave Hp := (Entails.of_eq (rest_bar v c)) $$ Hpay
  imod (shut v (K (barCell c)) (barCell c)) $$ [Hat] with Hb
  · isplitr; · iapply (env_bar v K _); iexact He
    iexact Hat
  iapply Hk
  isplitl [HO]; · iexists _; iexact HO
  isplitl [Hb]; · iexact Hb
  iexact Hp

/-! ## DMA waits -/

/-- The wait for the one transfer counted on DMA semaphore `k`: what it hands over, and the counter back at zero. -/
theorem step_wait (v : Vals F) (K : GSem nD τ sig → ℕ) (c : Dev nD) (kk : Fin 24) (hk : 4 ≤ kk.val) (n : ℕ)
    (hlev : ∀ i : Fin 15, n ≤ i.val → levNo kk < if i.val < 6 then 1 else if i.val < 9 then 2 else if i.val < 12 then 3 else 4)
    {sp sp' : Space} {s s' : Shape} {e e' : EltTy} {src : Memref sig .tc sp s e} {dst : Memref sig .tc sp' s' e'}
    {sm : DmaSem sig} (hs : kk = sm) {h1 : src.view.WordExact} {h2 : dst.view.WordExact} (hN : dst.view.dmaCredit = creditOf kk)
    {α : Type} {k : PUnit → Prog (TpuEff nD τ sig (Elt F) Λ₀ .tc) α} {Q : α → sProp 𝕄} :
    iprop(env v K ∗ owed c n ∗ cred (tallyAt (dCell c kk) () (creditOf kk)) ∗ atPos ER (dCell c kk) 0 ∅ 0)
      ⊢ iprop(((owed c n ∗ semVal (dCell c kk) 0 ∗ dmaPay v kk c) -∗ runs c (k ⟨⟩) Q)
          -∗ runs c (.op (.waitDma2 sm src dst h1 h2) k) Q) := by
  subst hs
  iintro ⟨#He, HO, Hc, Hat⟩ Hk
  unfold owed
  icases HO with ⟨%W, HO⟩
  rw [← hN]
  iapply (Rounds.wp_wait_rest_token 𝒱₀ ER (plan v) (c : Thread nD τ) none (κ := K (dCell c kk))
      (wpE_waitDma2_eq (src := src) (dst := dst) 𝒱₀ (c : Thread nD τ) none Set.univ) (Set.mem_univ _) () (O := Orem c n) (W := W) (R := 0) (m := 0) (T := ∅)
      ((Nat.zero_add _).trans (hN.trans (expect_dma v c kk).symm))) $$ [Hc HO Hat]
  · isplitr; · iapply (env_dma v K c kk hk); iexact He
    isplitl [Hc]; · iexact Hc
    isplitl [HO]; · iexact HO
    isplitr
    · iapply (env_mayWait v K c (.dma (dmaNo kk)) n (levNo kk) (lv_dma c kk).le hlev); iexact He
    iexact Hat
  iintro ⟨HO, Hat, -, Hpay⟩
  ihave Hp := (Entails.of_eq (rest_dma v c kk)) $$ Hpay
  imod (shut v (K (dCell c kk)) (dCell c kk)) $$ [Hat] with Hb
  · isplitr; · iapply (env_dma v K c kk hk); iexact He
    iexact Hat
  iapply Hk
  isplitl [HO]; · iexists _; iexact HO
  isplitl [Hb]; · iexact Hb
  iexact Hp

/-! ## Copies -/

/-- What a copy has written is what it read: the destination, held at the source's value. -/
theorem landed (c : Dev nD) {sp : Space} {s : Shape} {e : EltTy} (dst : Memref sig .tc sp s e)
    (fd : Buf (Elt F) (dst.view.loc (c : Thread nD τ))) (X : Vec F s e) :
    (dst.view.loc (c : Thread nD τ) ↦[dst.view.set]{fullShare} (dst.view.write (Elt F) fd X Finset.univ) : sProp 𝕄)
      ⊢ own c dst fullShare X :=
  pointsTo_rep_of_read (c : Thread nD τ) dst _ fullShare X (View.read_write_univ _ _)

/-- A local copy of a slice of main memory into a scratch buffer. -/
theorem step_copy (v : Vals F) (K : GSem nD τ sig → ℕ) (c : Dev nD) (kk : Fin 24) (hk : 4 ≤ kk.val)
    {sp sp' : Space} {s : Shape} {e : EltTy} {src : Memref sig .tc sp s e} {dst : Memref sig .tc sp' s e} {sm : DmaSem sig} (hs : kk = sm)
    {h1 : src.view.WordExact} {h2 : dst.view.WordExact} {h3 : DmaTarget.Typed sp (.dma sm) (DmaTarget.here dst : DmaTarget nD τ sig .tc sp' s e)} (hN : dst.view.dmaCredit = creditOf kk)
    (fs : Buf (Elt F) (src.view.loc (c : Thread nD τ)))
    (hp : iprop(own c dst fullShare (src.view.read (Elt F) fs) ∗ (src.view.loc (c : Thread nD τ) ↦[src.view.set]{fullShare} fs))
      ⊢ dmaPay v kk c)
    {α : Type} {k : PUnit → Prog (TpuEff nD τ sig (Elt F) Λ₀ .tc) α} {Q : α → sProp 𝕄} :
    iprop(env v K ∗ (src.view.loc (c : Thread nD τ) ↦[src.view.set]{fullShare} fs) ∗ junk c dst
        ∗ dutyTok ER (dCell c kk) 0 0 ∗ reached ER (dCell c kk) 0)
      ⊢ iprop((cred (tallyAt (dCell c kk) () (creditOf kk)) -∗ runs c (k ⟨⟩) Q)
          -∗ runs c (.op (.enqueueDma src (.here dst) (.dma sm) h1 h2 h3) k) Q) := by
  subst hs
  iintro ⟨#He, Hs, ⟨%fd, Hd⟩, Ht, Hr⟩ Hk
  rw [← hN]
  iapply (Rounds.wp_copy_pointsTo 𝒱₀ ER (plan v) (c : Thread nD τ) none (src := src) (dst := dst) (sem := .dma (dmaNo kk)) (q := fullShare)
      (fs := fs) (fd := fd) (r := 0) (d := 0) (κ := K (dCell c kk))
      (by rw [duties_dma]; exact Finset.mem_singleton_self _) () dst.view.dmaCredit rfl ((amount_dma v c kk 0).trans hN.symm)
      (by rw [payload_dma]; exact (sep_mono_left (landed c dst fd _)).trans hp)) $$ [Hs Hd Ht Hr]
  · isplitr; · iapply (env_dma v K c kk hk); iexact He
    isplitl [Hs]; · iexact Hs
    isplitl [Hd]; · iexact Hd
    isplitl [Ht]; · iexact Ht
    iexact Hr
  iexact Hk

/-- Remote step `i`, a copy whose source comes back to the sender: counted on DMA semaphore `k1` here and `k2` there. -/
theorem step_send (v : Vals F) (K : GSem nD τ sig → ℕ) (c : Dev nD) (i : Fin 15) (hi : ¬ i.val < 6) (k1 k2 : Fin 24) (hk1 : 4 ≤ k1.val) (hk2 : 4 ≤ k2.val)
    (h2 : obNo i = k2) (j : Fin 6) (hj : obTo i = j)
    {sp sp' : Space} {s : Shape} {e : EltTy} {src : Memref sig .tc sp s e} {dst : Memref sig .tc sp' s e} {dev : Dev nD} (hd : dev = peer j c)
    {sS sV : DmaSem sig} (hS : k1 = sS) (hV : k2 = sV)
    {hsc : dst.view.ref.isScScratch = false} {w1 : src.view.WordExact} {w2 : dst.view.WordExact}
    {w3 : DmaTarget.Typed sp (.dma sV) (.remote (Dev.tc dev) dst (.dma sS) hsc)}
    (hN : dst.view.dmaCredit = NB) (hN1 : creditOf k1 = NB) (hN2 : creditOf k2 = NB) (q : PosShare TreeShare) (X : Vec F s e)
    (hp1 : own c src q X ⊢ dmaPay v k1 c) (hp2 : own (peer j c) dst fullShare X ⊢ dmaPay v k2 (peer j c))
    {α : Type} {k : PUnit → Prog (TpuEff nD τ sig (Elt F) Λ₀ .tc) α} {Q : α → sProp 𝕄} :
    iprop(env v K ∗ owed c i.val ∗ own c src q X ∗ junk (peer j c) dst
        ∗ dutyTok ER (dCell c k1) 0 0 ∗ reached ER (dCell c k1) 0
        ∗ dutyTok ER (dCell (peer j c) k2) 0 0 ∗ reached ER (dCell (peer j c) k2) 0)
      ⊢ iprop(((cred (tallyAt (dCell c k1) () (creditOf k1)) ∗ owed c (i.val + 1)) -∗ runs c (k ⟨⟩) Q)
          -∗ runs c (.op (.enqueueDma src (.remote (Dev.tc dev) dst (.dma sS) hsc) (.dma sV) w1 w2 w3) k) Q) := by
  subst hd hS hV hj
  iintro ⟨#He, HO, Hs, ⟨%fd, Hd⟩, Ht1, Hr1, Ht2, Hr2⟩ Hk
  unfold owed
  icases HO with ⟨%W, HO⟩
  rw [hN1]
  iapply (Rounds.wp_send_pointsTo 𝒱₀ ER (plan v) (c : Thread nD τ) none (c' := (peer (obTo i) c : Thread nD τ)) (src := src) (dst := dst)
      (sS := .dma (dmaNo k1)) (sem := .dma (dmaNo k2)) (q := q) (fs := src.view.rep X) (κ₁ := K (dCell c k1)) (κ₂ := K (dCell (peer (obTo i) c) k2))
      (r₁ := 0) (r₂ := 0) (d₁ := 0) (d₂ := 0) (fd := fd)
      (by rw [duties_dma]; exact Finset.mem_singleton_self _) (by rw [duties_dma]; exact Finset.mem_singleton_self _)
      () () NB hN ((amount_dma v _ _ 0).trans hN1) ((amount_dma v _ _ 0).trans hN2) (Orem c (i.val + 1))
      ((Orem_step c i).trans (by rw [ob, obSem, obAmt, if_neg hi, if_neg hi, h2])) (W := W)
      (by rw [payload_dma]; exact hp1)
      (by rw [payload_dma, View.read_rep]; exact (landed _ dst fd X).trans hp2)) $$ [Hs Hd HO Ht1 Hr1 Ht2 Hr2]
  · isplitr; · iapply (env_dma v K c k1 hk1); iexact He
    isplitr; · iapply (env_dma v K _ k2 hk2); iexact He
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iintro ⟨Hc, HO⟩
  iapply Hk
  isplitl [Hc]; · iexact Hc
  iexists W; iexact HO

/-- The same when the source rows are not to come back: they go with what lands. -/
theorem step_give (v : Vals F) (K : GSem nD τ sig → ℕ) (c : Dev nD) (i : Fin 15) (hi : ¬ i.val < 6) (k1 k2 : Fin 24) (hk1 : 4 ≤ k1.val) (hk2 : 4 ≤ k2.val)
    (h2 : obNo i = k2) (j : Fin 6) (hj : obTo i = j)
    {sp sp' : Space} {s : Shape} {e : EltTy} {src : Memref sig .tc sp s e} {dst : Memref sig .tc sp' s e} {dev : Dev nD} (hd : dev = peer j c)
    {sS sV : DmaSem sig} (hS : k1 = sS) (hV : k2 = sV)
    {hsc : dst.view.ref.isScScratch = false} {w1 : src.view.WordExact} {w2 : dst.view.WordExact}
    {w3 : DmaTarget.Typed sp (.dma sV) (.remote (Dev.tc dev) dst (.dma sS) hsc)}
    (hN : dst.view.dmaCredit = NB) (hN1 : creditOf k1 = NB) (hN2 : creditOf k2 = NB) (X : Vec F s e)
    (hp1 : (emp : sProp 𝕄) ⊢ dmaPay v k1 c)
    (hp2 : iprop(own (peer j c) dst fullShare X ∗ own c src fullShare X) ⊢ dmaPay v k2 (peer j c))
    {α : Type} {k : PUnit → Prog (TpuEff nD τ sig (Elt F) Λ₀ .tc) α} {Q : α → sProp 𝕄} :
    iprop(env v K ∗ owed c i.val ∗ own c src fullShare X ∗ junk (peer j c) dst
        ∗ dutyTok ER (dCell c k1) 0 0 ∗ reached ER (dCell c k1) 0
        ∗ dutyTok ER (dCell (peer j c) k2) 0 0 ∗ reached ER (dCell (peer j c) k2) 0)
      ⊢ iprop(((cred (tallyAt (dCell c k1) () (creditOf k1)) ∗ owed c (i.val + 1)) -∗ runs c (k ⟨⟩) Q)
          -∗ runs c (.op (.enqueueDma src (.remote (Dev.tc dev) dst (.dma sS) hsc) (.dma sV) w1 w2 w3) k) Q) := by
  subst hd hS hV hj
  iintro ⟨#He, HO, Hs, ⟨%fd, Hd⟩, Ht1, Hr1, Ht2, Hr2⟩ Hk
  unfold owed
  icases HO with ⟨%W, HO⟩
  rw [hN1]
  iapply (Rounds.wp_send_landing_pointsTo 𝒱₀ ER (plan v) (c : Thread nD τ) none (c' := (peer (obTo i) c : Thread nD τ)) (src := src) (dst := dst)
      (sS := .dma (dmaNo k1)) (sem := .dma (dmaNo k2)) (q := fullShare) (fs := src.view.rep X) (κ₁ := K (dCell c k1)) (κ₂ := K (dCell (peer (obTo i) c) k2))
      (r₁ := 0) (r₂ := 0) (d₁ := 0) (d₂ := 0) (fd := fd)
      (by rw [duties_dma]; exact Finset.mem_singleton_self _) (by rw [duties_dma]; exact Finset.mem_singleton_self _)
      () () NB hN ((amount_dma v _ _ 0).trans hN1) ((amount_dma v _ _ 0).trans hN2) (Orem c (i.val + 1))
      ((Orem_step c i).trans (by rw [ob, obSem, obAmt, if_neg hi, if_neg hi, h2])) (W := W)
      (by rw [payload_dma]; exact hp1)
      (by rw [payload_dma, View.read_rep]; exact (sep_mono_left (landed _ dst fd X)).trans hp2)) $$ [Hs Hd HO Ht1 Hr1 Ht2 Hr2]
  · isplitr; · iapply (env_dma v K c k1 hk1); iexact He
    isplitr; · iapply (env_dma v K _ k2 hk2); iexact He
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iintro ⟨Hc, HO⟩
  iapply Hk
  isplitl [Hc]; · iexact Hc
  iexists W; iexact HO

end Cert.KernelIdeal.Cross

end
-- ==== Proof.Moves.lean ====
/-
  The steps of the protocol in the closed forms the run uses: the three kinds of remote copy, once for the three partners of
  each kind, and the waits.
-/
module

public import proofs.«01_k».proof.Proof.Steps

@[expose] public section

noncomputable section

namespace Cert.KernelIdeal.Cross

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## Semaphore numbers -/

/-- The three semaphores from number `b` on. -/
abbrev at3 (b : Fin 22) (o : Fin 3) : Fin 24 := ⟨b.val + o.val, by omega⟩

/-! ## What is known and held of one semaphore -/

/-- Its round is still to be waited for. -/
abbrev pos (c : Dev nD) (k : Fin 24) : sProp 𝕄 := atPos ER (dCell c k) 0 ∅ 0
/-- The right to wait for it. -/
abbrev crd (c : Dev nD) (k : Fin 24) : sProp 𝕄 := cred (tallyAt (dCell c k) () (creditOf k))
/-- It is back at zero. -/
abbrev done (c : Dev nD) (k : Fin 24) : sProp 𝕄 := semVal (dCell c k) 0
/-- The right to one transfer counted on it. -/
abbrev tok (c : Dev nD) (k : Fin 24) : sProp 𝕄 := iprop(dutyTok ER (dCell c k) 0 0 ∗ reached ER (dCell c k) 0)

theorem credit_at3 (b : Fin 22) (hb : 6 ≤ b.val) (o : Fin 3) : creditOf (at3 b o) = NB := by
  unfold creditOf
  rw [if_neg (fun h => by have := congrArg Fin.val h; simp only at this; change b.val + o.val = 4 at this; omega),
    if_neg (fun h => by have := congrArg Fin.val h; simp only at this; change b.val + o.val = 5 at this; omega)]

theorem pay_at6 (v : Vals F) (o : Fin 3) (c : Dev nD) : dmaPay v (at3 6 o) c = iprop(emp) := by
  match o with | 0 => rfl | 1 => rfl | 2 => rfl
theorem pay_at9 (v : Vals F) (o : Fin 3) (c : Dev nD) : dmaPay v (at3 9 o) c = prsPay v o c := by
  match o with | 0 => rfl | 1 => rfl | 2 => rfl
theorem pay_at12 (v : Vals F) (o : Fin 3) (c : Dev nD) : dmaPay v (at3 12 o) c = lentPay o (A1 v) c := by
  match o with | 0 => rfl | 1 => rfl | 2 => rfl
theorem pay_at15 (v : Vals F) (o : Fin 3) (c : Dev nD) : dmaPay v (at3 15 o) c = zbPay v o c := by
  match o with | 0 => rfl | 1 => rfl | 2 => rfl
theorem pay_at18 (v : Vals F) (o : Fin 3) (c : Dev nD) : dmaPay v (at3 18 o) c = lentPay o (A2 v) c := by
  match o with | 0 => rfl | 1 => rfl | 2 => rfl
theorem pay_at21 (v : Vals F) (o : Fin 3) (c : Dev nD) : dmaPay v (at3 21 o) c = pagPay v o c := by
  match o with | 0 => rfl | 1 => rfl | 2 => rfl

/-! ## The remote copies' numbers -/

theorem no_prs : ∀ o : Fin 3, obNo ⟨6 + o.val, by omega⟩ = at3 9 o := by decide
theorem no_zb : ∀ o : Fin 3, obNo ⟨9 + o.val, by omega⟩ = at3 15 o := by decide
theorem no_pag : ∀ o : Fin 3, obNo ⟨12 + o.val, by omega⟩ = at3 21 o := by decide
theorem to_prs : ∀ o : Fin 3, obTo ⟨6 + o.val, by omega⟩ = near o := by decide
theorem to_zb : ∀ o : Fin 3, obTo ⟨9 + o.val, by omega⟩ = far o := by decide
theorem to_pag : ∀ o : Fin 3, obTo ⟨12 + o.val, by omega⟩ = near o := by decide

theorem four_le (b : Fin 22) (hb : 4 ≤ b.val) (o : Fin 3) : 4 ≤ (at3 b o).val := Nat.le_trans hb (Nat.le_add_right _ _)

/-! ## Remote copies -/

/-- Remote step `6 + o`: the rows plane partner `o` is in charge of go to its slot `o`, and are that partner's from then on. -/
theorem move_prs (v : Vals F) (K : GSem nD τ sig → ℕ) (c : Dev nD) (o : Fin 3)
    {src dst : Memref sig .tc .vmem S64x512 .f32} (hsrc : src = rowsM (other o (place c))) (hdst : dst = pslot o)
    {dev : Dev nD} (hd : dev = peer (near o) c) {sS sV : DmaSem sig} (hS : at3 6 o = sS) (hV : at3 9 o = sV)
    {hsc : dst.view.ref.isScScratch = false} {w1 : src.view.WordExact} {w2 : dst.view.WordExact}
    {w3 : DmaTarget.Typed .vmem (.dma sV) (.remote (Dev.tc dev) dst (.dma sS) hsc)}
    {α : Type} {k : PUnit → Prog (TpuEff nD τ sig (Elt F) Λ₀ .tc) α} {Q : α → sProp 𝕄} :
    env v K ⊢ iprop(owed c (6 + o.val) -∗ own c (rowsM (other o (place c))) fullShare (blk (v.T c) (other o (place c)))
        -∗ junk (peer (near o) c) (pslot o) -∗ tok c (at3 6 o) -∗ tok (peer (near o) c) (at3 9 o)
        -∗ (crd c (at3 6 o) -∗ owed c (6 + o.val + 1) -∗ runs c (k ⟨⟩) Q)
        -∗ runs c (.op (.enqueueDma src (.remote (Dev.tc dev) dst (.dma sS) hsc) (.dma sV) w1 w2 w3) k) Q) := by
  subst hsrc hdst
  iintro #He HO Hs Hd ⟨Ht1, Hr1⟩ ⟨Ht2, Hr2⟩ Hk
  iapply (step_give v K c ⟨6 + o.val, by omega⟩ (by simp only; omega) (at3 6 o) (at3 9 o) (four_le 6 (by decide) o) (four_le 9 (by decide) o)
      (no_prs o) (near o) (to_prs o) hd hS hV (by rfl) (credit_at3 6 (by decide) o) (credit_at3 9 (by decide) o)
      (blk (v.T c) (other o (place c))) (by rw [pay_at6])
      (by rw [pay_at9]; unfold prsPay; rw [peer_peer, place_near]
          iintro ⟨H1, H2⟩; isplitl [H1]; · iexact H1
          iexists _; iexact H2)) $$ [HO Hs Hd Ht1 Hr1 Ht2 Hr2]
  · isplitr; · iexact He
    isplitl [HO]; · iexact HO
    isplitl [Hs]; · iexact Hs
    isplitl [Hd]; · iexact Hd
    isplitl [Ht1]; · iexact Ht1
    isplitl [Hr1]; · iexact Hr1
    isplitl [Ht2]; · iexact Ht2
    iexact Hr2
  iintro ⟨Hc, HO⟩
  iapply Hk $$ Hc HO

/-- Remote step `9 + o`: the own block, summed over the plane, goes to slot `o` of the partner `o` across the planes. -/
theorem move_zb (v : Vals F) (K : GSem nD τ sig → ℕ) (c : Dev nD) (o : Fin 3)
    {src dst : Memref sig .tc .vmem S64x512 .f32} (hsrc : src = rowsM (place c)) (hdst : dst = zslot o)
    {dev : Dev nD} (hd : dev = peer (far o) c) {sS sV : DmaSem sig} (hS : at3 12 o = sS) (hV : at3 15 o = sV)
    {hsc : dst.view.ref.isScScratch = false} {w1 : src.view.WordExact} {w2 : dst.view.WordExact}
    {w3 : DmaTarget.Typed .vmem (.dma sV) (.remote (Dev.tc dev) dst (.dma sS) hsc)}
    {α : Type} {k : PUnit → Prog (TpuEff nD τ sig (Elt F) Λ₀ .tc) α} {Q : α → sProp 𝕄} :
    env v K ⊢ iprop(owed c (9 + o.val) -∗ own c (rowsM (place c)) (part o) (A1 v c)
        -∗ junk (peer (far o) c) (zslot o) -∗ tok c (at3 12 o) -∗ tok (peer (far o) c) (at3 15 o)
        -∗ (crd c (at3 12 o) -∗ owed c (9 + o.val + 1) -∗ runs c (k ⟨⟩) Q)
        -∗ runs c (.op (.enqueueDma src (.remote (Dev.tc dev) dst (.dma sS) hsc) (.dma sV) w1 w2 w3) k) Q) := by
  subst hsrc hdst
  iintro #He HO Hs Hd ⟨Ht1, Hr1⟩ ⟨Ht2, Hr2⟩ Hk
  iapply (step_send v K c ⟨9 + o.val, by omega⟩ (by simp only; omega) (at3 12 o) (at3 15 o) (four_le 12 (by decide) o) (four_le 15 (by decide) o)
      (no_zb o) (far o) (to_zb o) hd hS hV (by rfl) (credit_at3 12 (by decide) o) (credit_at3 15 (by decide) o)
      (part o) (A1 v c) (by rw [pay_at12]; exact .rfl)
      (by rw [pay_at15]; unfold zbPay; rw [peer_peer])) $$ [HO Hs Hd Ht1 Hr1 Ht2 Hr2]
  · isplitr; · iexact He
    isplitl [HO]; · iexact HO
    isplitl [Hs]; · iexact Hs
    isplitl [Hd]; · iexact Hd
    isplitl [Ht1]; · iexact Ht1
    isplitl [Hr1]; · iexact Hr1
    isplitl [Ht2]; · iexact Ht2
    iexact Hr2
  iintro ⟨Hc, HO⟩
  iapply Hk $$ Hc HO

/-- Remote step `12 + o`: the own block, summed over all devices, goes to the same rows of plane partner `o`. -/
theorem move_pag (v : Vals F) (K : GSem nD τ sig → ℕ) (c : Dev nD) (o : Fin 3)
    {src dst : Memref sig .tc .vmem S64x512 .f32} (hsrc : src = rowsM (place c)) (hdst : dst = rowsM (place c))
    {dev : Dev nD} (hd : dev = peer (near o) c) {sS sV : DmaSem sig} (hS : at3 18 o = sS) (hV : at3 21 o = sV)
    {hsc : dst.view.ref.isScScratch = false} {w1 : src.view.WordExact} {w2 : dst.view.WordExact}
    {w3 : DmaTarget.Typed .vmem (.dma sV) (.remote (Dev.tc dev) dst (.dma sS) hsc)}
    {α : Type} {k : PUnit → Prog (TpuEff nD τ sig (Elt F) Λ₀ .tc) α} {Q : α → sProp 𝕄} :
    env v K ⊢ iprop(owed c (12 + o.val) -∗ own c (rowsM (place c)) (part o) (A2 v c)
        -∗ junk (peer (near o) c) (rowsM (place c)) -∗ tok c (at3 18 o) -∗ tok (peer (near o) c) (at3 21 o)
        -∗ (crd c (at3 18 o) -∗ owed c (12 + o.val + 1) -∗ runs c (k ⟨⟩) Q)
        -∗ runs c (.op (.enqueueDma src (.remote (Dev.tc dev) dst (.dma sS) hsc) (.dma sV) w1 w2 w3) k) Q) := by
  subst hsrc hdst
  iintro #He HO Hs Hd ⟨Ht1, Hr1⟩ ⟨Ht2, Hr2⟩ Hk
  iapply (step_send v K c ⟨12 + o.val, by omega⟩ (by simp only; omega) (at3 18 o) (at3 21 o) (four_le 18 (by decide) o) (four_le 21 (by decide) o)
      (no_pag o) (near o) (to_pag o) hd hS hV (by rfl) (credit_at3 18 (by decide) o) (credit_at3 21 (by decide) o)
      (part o) (A2 v c) (by rw [pay_at18]; exact .rfl)
      (by rw [pay_at21]; unfold pagPay; rw [peer_peer, place_near, other_other])) $$ [HO Hs Hd Ht1 Hr1 Ht2 Hr2]
  · isplitr; · iexact He
    isplitl [HO]; · iexact HO
    isplitl [Hs]; · iexact Hs
    isplitl [Hd]; · iexact Hd
    isplitl [Ht1]; · iexact Ht1
    isplitl [Hr1]; · iexact Hr1
    isplitl [Ht2]; · iexact Ht2
    iexact Hr2
  iintro ⟨Hc, HO⟩
  iapply Hk $$ Hc HO

/-! ## Waits -/

/-- A wait, with what is handed over named. -/
theorem move_wait (v : Vals F) (K : GSem nD τ sig → ℕ) (c : Dev nD) (kk : Fin 24) (hk : 4 ≤ kk.val) (n : ℕ)
    (hlev : ∀ i : Fin 15, n ≤ i.val → levNo kk < if i.val < 6 then 1 else if i.val < 9 then 2 else if i.val < 12 then 3 else 4)
    {P : sProp 𝕄} (hP : dmaPay v kk c = P)
    {sp sp' : Space} {s s' : Shape} {e e' : EltTy} {src : Memref sig .tc sp s e} {dst : Memref sig .tc sp' s' e'}
    {sm : DmaSem sig} (hs : kk = sm) {h1 : src.view.WordExact} {h2 : dst.view.WordExact} (hN : dst.view.dmaCredit = creditOf kk)
    {α : Type} {k : PUnit → Prog (TpuEff nD τ sig (Elt F) Λ₀ .tc) α} {Q : α → sProp 𝕄} :
    env v K ⊢ iprop(owed c n -∗ crd c kk -∗ pos c kk -∗ (owed c n -∗ done c kk -∗ P -∗ runs c (k ⟨⟩) Q)
        -∗ runs c (.op (.waitDma2 sm src dst h1 h2) k) Q) := by
  subst hP
  iintro #He HO Hc Hat Hk
  iapply (step_wait v K c kk hk n hlev hs hN) $$ [HO Hc Hat]
  · isplitr; · iexact He
    isplitl [HO]; · iexact HO
    isplitl [Hc]; · iexact Hc
    iexact Hat
  iintro ⟨HO, Hd, HP⟩
  iapply Hk $$ HO Hd HP

end Cert.KernelIdeal.Cross

end
-- ==== Proof.Loads.lean ====
/-
  Loads and stores of the kernel's buffers: whole, at one head, at a block of rows, at a landing slot.
-/
module

public import proofs.«01_k».proof.Proof.Moves
public import Idealize.ShloMosaic.Lib.Pipeline.Value

@[expose] public section

noncomputable section

namespace Cert.KernelIdeal.Cross

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (c : Dev nD) {α : Type} {Q : α → sProp (MT nD τ sig Unit (Elt F) ℕ UU ℕ)}

/-- A load of part of a held memref. -/
theorem load_part {cs : CoreSpace} {s : Shape} {e : EltTy} (m : Memref sig .tc cs s e) (q : PosShare TreeShare) (X : Vec F s e)
    {r : LoadRect s} {hl : m.view.LoadsAt r} {k : Vec F r.shape e → Prog (TpuEff nD τ sig (Elt F) Λ₀ .tc) α} :
    own c m q X ⊢ iprop((own c m q X -∗ runs c (k fun y => X (r.idx y)) Q) -∗ runs c (.op (.load m r hl) k) Q) := by
  have h : own c m q X ⊢ iprop((own c m q X -∗ runs c (k (m.view.readAt (Elt F) r (m.view.rep X))) Q) -∗ runs c (.op (.load m r hl) k) Q) :=
    wp_load 𝒱₀ (c : Thread nD τ) none Set.univ (m.view.setOn_subset_set _)
  rwa [View.readAt_rep] at h

/-- A load of the whole of a held memref. -/
theorem load_full {cs : CoreSpace} {s : Shape} {e : EltTy} (m : Memref sig .tc cs s e) (q : PosShare TreeShare) (X : Vec F s e)
    {off : Fin s.rank → ℕ} {inb : ∀ a, off a + s.size a ≤ s.size a} {hl : m.view.LoadsAt (Rect.unit off s.size inb).toLoadRect}
    {k : Vec F s e → Prog (TpuEff nD τ sig (Elt F) Λ₀ .tc) α} :
    own c m q X ⊢ iprop((own c m q X -∗ runs c (k X) Q)
      -∗ runs c (.op (.load m (Rect.unit off s.size inb).toLoadRect hl) k) Q) := by
  have h : own c m q X ⊢ iprop((own c m q X -∗ runs c (k (m.view.readAt (Elt F) (Rect.unit off s.size inb).toLoadRect (m.view.rep X))) Q)
      -∗ runs c (.op (.load m (Rect.unit off s.size inb).toLoadRect hl) k) Q) :=
    wp_load 𝒱₀ (c : Thread nD τ) none Set.univ (m.view.setOn_subset_set _)
  rwa [View.readAt_rep_full] at h

/-- A load from a memref nobody has written: some value, which the kernel does not use. -/
theorem load_junk {cs : CoreSpace} {s : Shape} {e : EltTy} (m : Memref sig .tc cs s e)
    {r : LoadRect s} {hl : m.view.LoadsAt r} {k : Vec F r.shape e → Prog (TpuEff nD τ sig (Elt F) Λ₀ .tc) α} :
    junk c m ⊢ iprop((junk c m -∗ ∀ X, runs c (k X) Q) -∗ runs c (.op (.load m r hl) k) Q) := by
  iintro ⟨%f, H⟩ Hk
  iapply (wp_load (defs := defs₀ (F := F)) 𝒱₀ (c : Thread nD τ) none Set.univ (Q := Q) (m := m) (r := r) (hl := hl) (k := k)
    (S := m.view.set) (q := fullShare) (f := f) (m.view.setOn_subset_set _)) $$ H
  iintro H
  ihave Hk := Hk $$ [H]
  · iexists f; iexact H
  iapply Hk

/-- A store of the whole of a memref. -/
theorem store_full {cs : CoreSpace} {s : Shape} {e : EltTy} (m : Memref sig .tc cs s e)
    {off : Fin s.rank → ℕ} {inb : ∀ a, off a + s.size a ≤ s.size a}
    {w : Vec F s e} {hx : (m.access (Rect.unit off s.size inb)).Stores Finset.univ} {hu}
    {k : PUnit → Prog (TpuEff nD τ sig (Elt F) Λ₀ .tc) α} :
    junk c m ⊢ iprop((own c m fullShare w -∗ runs c (k ⟨⟩) Q)
      -∗ runs c (.op (.store m (Rect.unit off s.size inb) w Finset.univ hx hu) k) Q) := by
  iintro ⟨%f, H⟩ Hk
  iapply (wp_store (r := Rect.unit off s.size inb) (w := w) 𝒱₀ (c : Thread nD τ) none Set.univ (m.view.set_slice_subset _)) $$ H
  iintro H
  iapply Hk
  iapply (pointsTo_rep_of_read (c : Thread nD τ) m _ fullShare w (by
    funext y
    have hy : (Rect.unit off s.size inb).emb y = y := funext fun a => Fin.ext (by
      show off a + 1 * (y a).val = (y a).val
      have := inb a; omega)
    have h := View.read_slice_write_emb (v := m.view) (Val := Elt F) (Rect.unit off s.size inb) f w (Finset.mem_univ y)
    rw [hy] at h
    exact h))
  iexact H

/-- A load of row block `b` of the accumulator. -/
theorem load_rows (b : Fin 4) (q : PosShare TreeShare) (X : Vec F S64x512 .f32) {off : Fin 2 → ℕ} (h : off = ![64 * b.val, 0])
    {inb : ∀ a, off a + S64x512.size a ≤ S256x512.size a} {hl : accM.view.LoadsAt (Rect.unit (s := S256x512) off S64x512.size inb).toLoadRect}
    {k : Vec F S64x512 .f32 → Prog (TpuEff nD τ sig (Elt F) Λ₀ .tc) α} :
    own c (rowsM b) q X ⊢ iprop((own c (rowsM b) q X -∗ runs c (k X) Q)
      -∗ runs c (.op (.load accM (Rect.unit (s := S256x512) off S64x512.size inb).toLoadRect hl) k) Q) := by
  subst h
  have h : own c (rowsM b) q X ⊢ iprop((own c (rowsM b) q X -∗ runs c (k ((accM.access (rowsRect b)).read (Elt F) ((rowsM b).view.rep X))) Q)
      -∗ runs c (.op (.load accM (rowsRect b).toLoadRect hl) k) Q) :=
    wp_load_rect (r := rowsRect b) 𝒱₀ (c : Thread nD τ) none Set.univ (Finset.Subset.refl _)
  have e : (accM.access (rowsRect b)).read (Elt F) ((rowsM b).view.rep X) = X := View.read_rep (rowsM b).view X
  rwa [e] at h

/-- A store to row block `b` of the accumulator. -/
theorem store_rows (b : Fin 4) (X w : Vec F S64x512 .f32) {off : Fin 2 → ℕ} (h : off = ![64 * b.val, 0])
    {inb : ∀ a, off a + S64x512.size a ≤ S256x512.size a}
    {hx : (accM.access (Rect.unit (s := S256x512) off S64x512.size inb)).Stores Finset.univ} {hu}
    {k : PUnit → Prog (TpuEff nD τ sig (Elt F) Λ₀ .tc) α} :
    own c (rowsM b) fullShare X ⊢ iprop((own c (rowsM b) fullShare w -∗ runs c (k ⟨⟩) Q)
      -∗ runs c (.op (.store accM (Rect.unit (s := S256x512) off S64x512.size inb) w Finset.univ hx hu) k) Q) := by
  subst h
  iintro H Hk
  iapply (wp_store (defs := defs₀ (F := F)) 𝒱₀ (c : Thread nD τ) none Set.univ (Q := Q) (m := accM) (r := rowsRect b) (k := k) (w := w)
    (S := (rowsM b).view.set) (f := (rowsM b).view.rep X) (Finset.Subset.refl _)) $$ H
  iintro H
  iapply Hk
  iapply (landed c (rowsM b) ((rowsM b).view.rep X) w)
  iexact H

/-- What the slot as a plane of its array reads is what the slot reads, with a leading axis. -/
theorem up_read {m : Memref sig .tc .vmem S3x64x512 .f32} (o : Fin 3) (X : Vec F S64x512 .f32) :
    (m.access (slotRect o)).read (Elt F) (((m.slice (slotRect o) (fun _ => rfl)).squeeze S64x512 squeezes_S1x64x512_S64x512).view.rep X) = up X := by
  have h := View.read_rep (Val := Elt F) ((m.slice (slotRect o) (fun _ => rfl)).squeeze S64x512 squeezes_S1x64x512_S64x512).view X
  have h2 : shapeCast S64x512 ((m.access (slotRect o)).read (Elt F) (((m.slice (slotRect o) (fun _ => rfl)).squeeze S64x512 squeezes_S1x64x512_S64x512).view.rep X)) (show S1x64x512.ShapeCasts S64x512 by decide) = X := h
  exact ((shapeCast_shapeCast _ _ _).symm.trans (congrArg (fun Y => shapeCast S1x64x512 Y (by decide)) h2))

/-- A load of landing slot `o`. -/
theorem load_slot (m : Memref sig .tc .vmem S3x64x512 .f32) (o : Fin 3) (q : PosShare TreeShare) (X : Vec F S64x512 .f32) {off : Fin 3 → ℕ} (h : off = ![o.val, 0, 0])
    {inb : ∀ a, off a + S1x64x512.size a ≤ S3x64x512.size a} {hl : m.view.LoadsAt (Rect.unit (s := S3x64x512) off S1x64x512.size inb).toLoadRect}
    {k : Vec F S1x64x512 .f32 → Prog (TpuEff nD τ sig (Elt F) Λ₀ .tc) α} :
    own c ((m.slice (slotRect o) (fun _ => rfl)).squeeze S64x512 squeezes_S1x64x512_S64x512) q X
      ⊢ iprop((own c ((m.slice (slotRect o) (fun _ => rfl)).squeeze S64x512 squeezes_S1x64x512_S64x512) q X -∗ runs c (k (up X)) Q)
        -∗ runs c (.op (.load m (Rect.unit (s := S3x64x512) off S1x64x512.size inb).toLoadRect hl) k) Q) := by
  subst h
  have h : own c ((m.slice (slotRect o) (fun _ => rfl)).squeeze S64x512 squeezes_S1x64x512_S64x512) q X
      ⊢ iprop((own c ((m.slice (slotRect o) (fun _ => rfl)).squeeze S64x512 squeezes_S1x64x512_S64x512) q X
          -∗ runs c (k ((m.access (slotRect o)).read (Elt F) (((m.slice (slotRect o) (fun _ => rfl)).squeeze S64x512 squeezes_S1x64x512_S64x512).view.rep X))) Q)
        -∗ runs c (.op (.load m (slotRect o).toLoadRect hl) k) Q) :=
    wp_load_rect (r := slotRect o) 𝒱₀ (c : Thread nD τ) none Set.univ (by rw [Memref.set_view_squeeze])
  rw [up_read] at h
  exact h

end Cert.KernelIdeal.Cross

end
-- ==== Proof.Acc.lean ====
/-
  The accumulator as four blocks of rows: split after the product is stored, put together again at the end; and a block's
  share split over three copies.
-/
module

public import proofs.«01_k».proof.Proof.Loads

@[expose] public section

noncomputable section

namespace Cert.KernelIdeal.Cross

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-- Row block `b` is rows `64 b` to `64 b + 63`. -/
theorem mem_rows (b : Fin 4) (i : S256x512.Idx) : i ∈ (rowsRect b).set ↔ (i 0).val / 64 = b.val := by
  have h0 : (i 0).val < 256 := (i 0).isLt
  have h1 : (i 1).val < 512 := (i 1).isLt
  rw [Rect.mem_set_unit]
  constructor
  · intro h
    have := h 0
    change 64 * b.val ≤ (i 0).val ∧ (i 0).val < 64 * b.val + 64 at this
    omega
  · intro h a
    match a with
    | ⟨0, _⟩ => show 64 * b.val ≤ (i 0).val ∧ (i 0).val < 64 * b.val + 64; omega
    | ⟨1, _⟩ => show 0 ≤ (i 1).val ∧ (i 1).val < 0 + 512; omega

theorem rows_set (b : Fin 4) : (rowsM b).view.set = (rowsRect b).set := View.set_slice_whole _ _

theorem rows_disjoint : ∀ b ∈ (Finset.univ : Finset (Fin 4)), ∀ b' ∈ (Finset.univ : Finset (Fin 4)), b ≠ b' →
    Disjoint ((rowsM b).view.set) ((rowsM b').view.set) := by
  intro b _ b' _ hne
  rw [rows_set, rows_set, Finset.disjoint_left]
  intro i hi hi'
  exact hne (Fin.ext (((mem_rows b i).mp hi).symm.trans ((mem_rows b' i).mp hi')))

theorem rows_cover : accM.view.set = Finset.univ.biUnion fun b : Fin 4 => (rowsM b).view.set := by
  rw [show accM.view.set = Finset.univ from View.set_whole _]
  ext i
  simp only [Finset.mem_univ, Finset.mem_biUnion, true_and, true_iff]
  have h0 : ((i : S256x512.Idx) 0).val < 256 := (i 0).isLt
  exact ⟨⟨((i : S256x512.Idx) 0).val / 64, by omega⟩, by rw [rows_set]; exact (mem_rows _ i).mpr rfl⟩

/-- The accumulator, held whole, is its four blocks of rows. -/
theorem acc_rows (c : Dev nD) (X : Vec F S256x512 .f32) :
    (own c accM fullShare X : sProp 𝕄) = bigSep Finset.univ fun b : Fin 4 => own c (rowsM b) fullShare (blk X b) := by
  have h := pointsTo_biUnion (ℓ := accM.view.loc (c : Thread nD τ)) (q := fullShare) (f := accM.view.rep X) (Val := Elt F) (Ix := Unit) (Name := ℕ) (U := UU) (Lvl := ℕ)
    Finset.univ (fun b : Fin 4 => (rowsM b).view.set) rows_disjoint
  rw [← rows_cover] at h
  refine h.trans (bigSep_congr fun b _ => ?_)
  have hr : (rowsM b).view.read (Elt F) (accM.view.rep X) = blk X b := by
    have h := View.read_rep (Val := Elt F) accM.view X
    exact funext fun y => congrFun h ((rowsRect b).idx y)
  rw [own, ← hr]
  exact pointsTo_rep (c : Thread nD τ) (rowsM b) _ fullShare

/-- The four blocks from the device's point of view: its own, and its plane partners'. -/
theorem rows_around (c : Dev nD) (Φ : Fin 4 → sProp 𝕄) :
    bigSep Finset.univ Φ = iprop(Φ (place c) ∗ Φ (other 0 (place c)) ∗ Φ (other 1 (place c)) ∗ Φ (other 2 (place c))) :=
  bigSep_univ_eq_bigSepL [place c, other 0 (place c), other 1 (place c), other 2 (place c)]
    (by revert c; decide +kernel) (by revert c; decide +kernel) Φ

/-- An index of a 64 × 512 block. -/
def ix64 (r : Fin 64) (n : Fin 512) : S64x512.Idx := fun a => match a with | ⟨0, _⟩ => r | ⟨1, _⟩ => n

/-- What the accumulator holds at the end: block `b` is the finished block of the device of the plane in charge of it. -/
def fin (v : Vals F) (c : Dev nD) : Vec F S256x512 .f32 := fun i =>
  A2 v (owner c ⟨(i 0).val / 64, by have : (i 0).val < 256 := (i 0).isLt; omega⟩) (ix64 ⟨(i 0).val % 64, by omega⟩ (i 1))

theorem blk_fin (v : Vals F) (c : Dev nD) (b : Fin 4) : blk (fin v c) b = A2 v (owner c b) := by
  funext y
  have h0 : (((rowsRect b).idx y) 0).val = 64 * b.val + 1 * (y 0).val := rfl
  have h1 : (((rowsRect b).idx y) 1).val = 0 + 1 * (y 1).val := rfl
  have hy : (y 0).val < 64 := (y 0).isLt
  have e1 : (⟨(((rowsRect b).idx y) 0).val / 64, by rw [h0]; have := b.isLt; omega⟩ : Fin 4) = b := Fin.ext (by simp only [h0]; omega)
  have e2 : ix64 ⟨(((rowsRect b).idx y) 0).val % 64, by omega⟩ (((rowsRect b).idx y) 1) = y := by
    funext a
    match a with
    | ⟨0, _⟩ => exact Fin.ext (by show (((rowsRect b).idx y) 0).val % 64 = (y 0).val; rw [h0]; omega)
    | ⟨1, _⟩ => exact Fin.ext (by show (((rowsRect b).idx y) 1).val = (y 1).val; rw [h1]; omega)
  show A2 v (owner c ⟨(((rowsRect b).idx y) 0).val / 64, _⟩) (ix64 ⟨(((rowsRect b).idx y) 0).val % 64, _⟩ (((rowsRect b).idx y) 1)) = _
  rw [e2, e1]

/-- The product, stored whole, is its four blocks. -/
theorem split_acc (c : Dev nD) (X : Vec F S256x512 .f32) :
    own c accM fullShare X ⊢ iprop(own c (rowsM (place c)) fullShare (blk X (place c))
      ∗ own c (rowsM (other 0 (place c))) fullShare (blk X (other 0 (place c)))
      ∗ own c (rowsM (other 1 (place c))) fullShare (blk X (other 1 (place c)))
      ∗ own c (rowsM (other 2 (place c))) fullShare (blk X (other 2 (place c)))) :=
  Entails.of_eq ((acc_rows c X).trans (rows_around c _))

/-- The four finished blocks are the whole accumulator. -/
theorem join_acc (v : Vals F) (c : Dev nD) :
    iprop(own c (rowsM (place c)) fullShare (A2 v c)
      ∗ own c (rowsM (other 0 (place c))) fullShare (A2 v (peer (near 0) c))
      ∗ own c (rowsM (other 1 (place c))) fullShare (A2 v (peer (near 1) c))
      ∗ own c (rowsM (other 2 (place c))) fullShare (A2 v (peer (near 2) c))) ⊢ own c accM fullShare (fin v c) := by
  refine Entails.of_eq (((acc_rows c _).trans (rows_around c _)).trans ?_).symm
  rw [blk_fin, blk_fin, blk_fin, blk_fin, owner_place, owner_other, owner_other, owner_other]

/-- A full share is the three parts the copies read with. -/
theorem split_share (c : Dev nD) {sp : Space} {s : Shape} {e : EltTy} (m : Memref sig .tc sp s e) (X : Vec F s e) :
    (own c m fullShare X : sProp 𝕄) ⊢ iprop(own c m (part 0) X ∗ own c m (part 1) X ∗ own c m (part 2) X) :=
  (pointsTo_share (PosShare.mem_left_op_right fullShare)).1.trans
    (sep_mono_right (pointsTo_share (PosShare.mem_left_op_right fullShare.right)).1)
theorem join_share (c : Dev nD) {sp : Space} {s : Shape} {e : EltTy} (m : Memref sig .tc sp s e) (X : Vec F s e) :
    iprop(own c m (part 0) X ∗ own c m (part 1) X ∗ own c m (part 2) X) ⊢ (own c m fullShare X : sProp 𝕄) :=
  (sep_mono_right (pointsTo_share (PosShare.mem_left_op_right fullShare.right)).2).trans
    (pointsTo_share (PosShare.mem_left_op_right fullShare)).2

end Cert.KernelIdeal.Cross

end
-- ==== Proof.Parts.lean ====
/-
  The first half of the kernel's body, part by part: the two weight slices are copied in, the barrier is crossed, the heads'
  products are computed and stored, and the first block leaves.
-/
module

public import proofs.«01_k».proof.Proof.Acc

@[expose] public section

noncomputable section

namespace Cert.KernelIdeal.Cross

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (v : Vals F) (K : GSem nD τ sig → ℕ) (c : Dev nD)

/-! ## The buffers the pipeline hands the body -/

abbrev xM : Memref sig .tc .vmem S2x128x512 .f32 := Memref.whole cc0_stg0_0
abbrev kM : Memref sig .tc .vmem S2x128x4x64 .f32 := Memref.whole cc0_stg1_0
abbrev vM : Memref sig .tc .vmem S2x128x4x64 .f32 := Memref.whole cc0_stg2_0
abbrev oM : Memref sig .tc .vmem S2x128x512 .f32 := Memref.whole cc0_stg3_0

/-! ## The value computed on one device -/

theorem head_inb (b : Fin 2) (h : Fin 4) : ∀ a, (![b.val, 0, h.val, 0] : Fin 4 → ℕ) a + S1x128x1x64.size a ≤ S2x128x4x64.size a := by
  revert b h; decide

/-- Batch `b`, head `h` of the keys or the values. -/
def headAt (X : Vec F S2x128x4x64 .f32) (b : Fin 2) (h : Fin 4) : Vec F S1x128x1x64 .f32 :=
  fun y => X ((Rect.unit (s := S2x128x4x64) ![b.val, 0, h.val, 0] S1x128x1x64.size (head_inb b h)).toLoadRect.idx y)

/-- Batch 0, all four heads side by side. -/
def ctx0 (x : Vec F S2x128x512 .f32) (wq : Vec F S512x1x256 .f32) (k w : Vec F S2x128x4x64 .f32) : FVec F S128x256 .f32 :=
  k0_pay7 (k0_pay2 x wq) (k0_pay4 (k0_pay3 x wq (headAt k 0 0)) (headAt w 0 0)) (k0_pay5 (k0_pay2 x wq) (headAt k 0 1) (headAt w 0 1))
    (k0_pay6 (k0_pay2 x wq)) (headAt k 0 2) (headAt w 0 2) (headAt k 0 3) (headAt w 0 3)

/-- The device's product: its heads' results of both batches, times its rows of the output weights. -/
def tval (x : Vec F S2x128x512 .f32) (wq : Vec F S512x1x256 .f32) (k w : Vec F S2x128x4x64 .f32) (wo : Vec F S1x256x512 .f32) :
    FVec F S256x512 .f32 :=
  k0_pay14 (ctx0 x wq k w) (k0_pay9 (k0_pay8 (k0_pay2 x wq)) (headAt k 1 0) (headAt w 1 0))
    (k0_pay11 (k0_pay10 (k0_pay2 x wq) (headAt k 1 1)) (headAt w 1 1)) (k0_pay12 (k0_pay2 x wq) (headAt k 1 2) (headAt w 1 2))
    (k0_pay13 (k0_pay2 x wq) (headAt k 1 3)) (headAt w 1 3) wo

/-! ## Small facts -/

theorem runs_ret {α : Type} (r : α) {Q : α → sProp 𝕄} : Q r ⊢ runs (F := F) c (.ret r) Q := by
  iintro H
  rw [show runs (F := F) c (.ret r) Q = iprop(|={Set.univ}=> Q r) from rfl]
  imodintro
  iexact H

theorem rows3 (r : Fin 3) {w : BitVec 32} (hw : w = BitVec.ofNat 32 (1 + r.val)) (inb) (h) :
    accM.slice (Rect.unit (s := S256x512) (k0_off3 c w) S64x512.size inb) h = rowsM (other r (place c)) := by
  subst hw; exact Memref.slice_unit_congr _ (off3_eq c r) _ _ _ _
theorem rows4 (inb) (h) :
    accM.slice (Rect.unit (s := S256x512) (k0_off4 c) S64x512.size inb) h = rowsM (place c) := Memref.slice_unit_congr _ (off4_eq c) _ _ _ _
theorem rows5 (inb) (h) :
    accM.slice (Rect.unit (s := S256x512) (k0_off5 c) S64x512.size inb) h = rowsM (place c) := Memref.slice_unit_congr _ (off5_eq c) _ _ _ _

theorem runs_deviceId {α : Type} {k : Dev nD → Prog (TpuEff nD τ sig (Elt F) Λ₀ .tc) α} {Q : α → sProp 𝕄} :
    runs c (k c) Q ⊢ runs c (.op .deviceId k) Q := by
  unfold runs
  rw [wp_deviceId]

/-- The load of one head. -/
theorem load_head (m : Memref sig .tc .vmem S2x128x4x64 .f32) (q : PosShare TreeShare) (X : Vec F S2x128x4x64 .f32) (b : Fin 2) (h : Fin 4)
    {off : Fin 4 → ℕ} (ho : off = ![b.val, 0, h.val, 0]) {inb : ∀ a, off a + S1x128x1x64.size a ≤ S2x128x4x64.size a}
    {hl : m.view.LoadsAt (Rect.unit (s := S2x128x4x64) off S1x128x1x64.size inb).toLoadRect} {α : Type}
    {k : Vec F S1x128x1x64 .f32 → Prog (TpuEff nD τ sig (Elt F) Λ₀ .tc) α} {Q : α → sProp 𝕄} :
    own c m q X ⊢ iprop((own c m q X -∗ runs c (k (headAt X b h)) Q)
      -∗ runs c (.op (.load m (Rect.unit (s := S2x128x4x64) off S1x128x1x64.size inb).toLoadRect hl) k) Q) := by
  subst ho
  exact load_part c m q X (r := (Rect.unit (s := S2x128x4x64) ![b.val, 0, h.val, 0] S1x128x1x64.size inb).toLoadRect)

/-- The slice of an array in main memory that a local copy reads. -/
abbrev hbm {sp : Space} {s : Shape} {e : EltTy} (m : Memref sig .tc sp s e) (f : Buf (Elt F) (m.view.loc (c : Thread nD τ))) : sProp 𝕄 :=
  m.view.loc (c : Thread nD τ) ↦[m.view.set]{fullShare} f

/-! ## The parts -/

abbrev part1 := k0_part1 (F := F) (Memref.whole cc0_stg0_0) (Memref.isWhole_whole _) (Memref.whole main_v1) (Memref.isWhole_whole _) (Memref.whole cc0_stg1_0) (Memref.isWhole_whole _) (Memref.whole cc0_stg2_0) (Memref.isWhole_whole _) (Memref.whole main_v2) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11
abbrev part2 := k0_part2 (F := F) (Memref.whole cc0_stg0_0) (Memref.isWhole_whole _) (Memref.whole main_v1) (Memref.isWhole_whole _) (Memref.whole cc0_stg1_0) (Memref.isWhole_whole _) (Memref.whole cc0_stg2_0) (Memref.isWhole_whole _) (Memref.whole main_v2) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11
abbrev part3 := k0_part3 (F := F) (Memref.whole cc0_stg0_0) (Memref.isWhole_whole _) (Memref.whole main_v1) (Memref.isWhole_whole _) (Memref.whole cc0_stg1_0) (Memref.isWhole_whole _) (Memref.whole cc0_stg2_0) (Memref.isWhole_whole _) (Memref.whole main_v2) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11
abbrev part4 := k0_part4 (F := F) (Memref.whole cc0_stg0_0) (Memref.isWhole_whole _) (Memref.whole main_v1) (Memref.isWhole_whole _) (Memref.whole cc0_stg1_0) (Memref.isWhole_whole _) (Memref.whole cc0_stg2_0) (Memref.isWhole_whole _) (Memref.whole main_v2) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11
abbrev part5 := k0_part5 (F := F) (Memref.whole cc0_stg0_0) (Memref.isWhole_whole _) (Memref.whole main_v1) (Memref.isWhole_whole _) (Memref.whole cc0_stg1_0) (Memref.isWhole_whole _) (Memref.whole cc0_stg2_0) (Memref.isWhole_whole _) (Memref.whole main_v2) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11
abbrev part6 := k0_part6 (F := F) (Memref.whole cc0_stg0_0) (Memref.isWhole_whole _) (Memref.whole main_v1) (Memref.isWhole_whole _) (Memref.whole cc0_stg1_0) (Memref.isWhole_whole _) (Memref.whole cc0_stg2_0) (Memref.isWhole_whole _) (Memref.whole main_v2) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11
abbrev part7 := k0_part7 (F := F) (Memref.whole cc0_stg0_0) (Memref.isWhole_whole _) (Memref.whole main_v1) (Memref.isWhole_whole _) (Memref.whole cc0_stg1_0) (Memref.isWhole_whole _) (Memref.whole cc0_stg2_0) (Memref.isWhole_whole _) (Memref.whole main_v2) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11

/-- What a barrier signal to partner `j` takes along. -/
abbrev sig1 (j : Fin 6) : sProp 𝕄 :=
  iprop(dutyTok ER (barCell (peer j c)) 0 j ∗ junk c (slotM j) ∗ reached ER (dCell c (slotSem j)) 0 ∗ reached ER (dCell c (backSem j)) 0)

/-- A barrier signal, in the form the parts use. -/
theorem move_signal (i : Fin 15) (hi : i.val < 6) (j : Fin 6) (hj : obTo i = j)
    {n : ℕ} (hn : i.val = n) {dst : Dev nD} (hd : dst = peer j c) {α : Type} {k : PUnit → Prog (TpuEff nD τ sig (Elt F) Λ₀ .tc) α} {Q : α → sProp 𝕄} :
    env v K ⊢ iprop(owed c n -∗ sig1 c j -∗ (owed c (n + 1) -∗ runs c (k ⟨⟩) Q)
      -∗ runs c (.op (.semSignal (Dev.tc dst) barrier0 1) k) Q) := by
  subst hn
  iintro #He HO ⟨H1, H2, H3, H4⟩ Hk
  iapply (step_signal v K c i hi j hj hd) $$ [HO H1 H2 H3 H4]
  · isplitr; · iexact He
    isplitl [HO]; · iexact HO
    isplitl [H1]; · iexact H1
    isplitl [H2]; · iexact H2
    isplitl [H3]; · iexact H3
    iexact H4
  iexact Hk

theorem part1_runs {Q : _ → sProp 𝕄} :
    env v K ⊢ iprop(owed c 0 -∗ hbm c (wqM c) (v.wq c) -∗ junk c wqS -∗ tok c 4 -∗ hbm c (woM c) (v.wo c) -∗ junk c woS -∗ tok c 5
        -∗ sig1 c 0 -∗ sig1 c 3 -∗ sig1 c 1
        -∗ (owed c 3 -∗ crd c 4 -∗ crd c 5 -∗ ∀ a b d e, Q ⟨c, a, b, d, SemArray.scalar (sig.barrier 0 rfl), e⟩)
        -∗ runs c part1 Q) := by
  iintro #He HO Hq Hqs Htq Ho Hos Hto Hs0 Hs3 Hs1 Hk
  unfold part1
  rw [k0_part1_eq_skeleton]
  unfold k0_part1_skel
  simp only [semSignalWord, semWaitWord, Prog.lift, Prog.bind_op, Prog.bind_ret, Prog.pure_eq_ret]
  iapply (runs_deviceId c)
  iapply (step_copy v K c 4 (by decide) (src := wqM c) rfl rfl (v.wq c) .rfl) $$ [Hq Hqs Htq]
  · icases Htq with ⟨Ht, Hr⟩
    isplitr; · iexact He
    isplitl [Hq]; · iexact Hq
    isplitl [Hqs]; · iexact Hqs
    isplitl [Ht]; · iexact Ht
    iexact Hr
  iintro Hc4
  iapply (step_copy v K c 5 (by decide) (src := woM c) rfl rfl (v.wo c) .rfl) $$ [Ho Hos Hto]
  · icases Hto with ⟨Ht, Hr⟩
    isplitr; · iexact He
    isplitl [Ho]; · iexact Ho
    isplitl [Hos]; · iexact Hos
    isplitl [Ht]; · iexact Ht
    iexact Hr
  iintro Hc5
  iapply (move_signal v K c 0 (by decide) 0 rfl (n := 0) rfl (dev1_eq c)) $$ He HO Hs0
  iintro HO
  iapply (move_signal v K c 1 (by decide) 3 rfl (n := 1) rfl (dev2_eq c)) $$ He HO Hs3
  iintro HO
  iapply (move_signal v K c 2 (by decide) 1 rfl (n := 2) rfl (dev3_eq c)) $$ He HO Hs1
  iintro HO
  ihave Hk := Hk $$ HO Hc4 Hc5
  iapply (runs_ret c)
  iapply Hk

theorem part2_runs (q : PosShare TreeShare) (x : Vec F S2x128x512 .f32) (kk : Vec F S2x128x4x64 .f32) (a b d e : BitVec 32) {Q : _ → sProp 𝕄} :
    env v K ⊢ iprop(owed c 3 -∗ sig1 c 4 -∗ sig1 c 2 -∗ sig1 c 5 -∗ cred (tallyAt (barCell c) () 6) -∗ atPos ER (barCell c) 0 ∅ 0
        -∗ crd c 4 -∗ pos c 4 -∗ own c xM q x -∗ own c kM q kk
        -∗ (owed c 6 -∗ semVal (barCell c) 0 -∗ bigSep Finset.univ (fun j => barPay (F := F) c j) -∗ done c 4 -∗ own c xM q x -∗ own c kM q kk
            -∗ own c wqS fullShare ((wqM c).view.read (Elt F) (v.wq c)) -∗ hbm c (wqM c) (v.wq c)
            -∗ Q ⟨k0_pay2 x ((wqM c).view.read (Elt F) (v.wq c)), k0_pay3 x ((wqM c).view.read (Elt F) (v.wq c)) (headAt kk 0 0)⟩)
        -∗ runs c (part2 c a b d (SemArray.scalar (sig.barrier 0 rfl)) e) Q) := by
  iintro #He HO Hs4 Hs2 Hs5 Hcb Hab Hc4 Hp4 Hx Hkk Hk
  unfold part2
  rw [k0_part2_eq_skeleton]
  unfold k0_part2_skel
  simp only [semSignalWord, semWaitWord, Prog.lift, Prog.bind_op, Prog.bind_ret, Prog.pure_eq_ret]
  iapply (move_signal v K c 3 (by decide) 4 rfl (n := 3) rfl (dev4_eq c)) $$ He HO Hs4
  iintro HO
  iapply (move_signal v K c 4 (by decide) 2 rfl (n := 4) rfl (dev5_eq c)) $$ He HO Hs2
  iintro HO
  iapply (move_signal v K c 5 (by decide) 5 rfl (n := 5) rfl (dev6_eq c)) $$ He HO Hs5
  iintro HO
  iapply (step_barrier v K c) $$ [HO Hcb Hab]
  · isplitr; · iexact He
    isplitl [HO]; · iexact HO
    isplitl [Hcb]; · iexact Hcb
    iexact Hab
  iintro ⟨HO, Hb, Hpay⟩
  iapply (load_full c xM q x) $$ Hx
  iintro Hx
  iapply (move_wait v K c 4 (by decide) 6 (by decide) (P := wqPay v c) rfl rfl rfl) $$ He HO Hc4 Hp4
  iintro HO Hd4 Hw
  unfold wqPay
  icases Hw with ⟨Hws, Hwq⟩
  iapply (load_full c wqS fullShare _) $$ Hws
  iintro Hws
  iapply (load_head c kM q kk 0 0 rfl) $$ Hkk
  iintro Hkk
  ihave Hk := Hk $$ HO Hb Hpay Hd4 Hx Hkk Hws Hwq
  iapply (runs_ret c)
  iexact Hk

theorem part3_runs (q : PosShare TreeShare) (kk w : Vec F S2x128x4x64 .f32) (v49 : FVec F S2x128x4x64 .f32) (v54 : FVec F S128x128 .f32) {Q : _ → sProp 𝕄} :
    own c kM q kk ⊢ iprop(own c vM q w -∗ (own c kM q kk -∗ own c vM q w
          -∗ Q ⟨k0_pay4 v54 (headAt w 0 0), k0_pay5 v49 (headAt kk 0 1) (headAt w 0 1), k0_pay6 v49⟩)
        -∗ runs c (part3 v49 v54) Q) := by
  iintro Hkk Hv Hk
  unfold part3
  rw [k0_part3_eq_skeleton]
  unfold k0_part3_skel
  simp only [Prog.lift, Prog.bind_op, Prog.bind_ret, Prog.pure_eq_ret]
  iapply (load_head c vM q w 0 0 rfl) $$ Hv
  iintro Hv
  iapply (load_head c kM q kk 0 1 rfl) $$ Hkk
  iintro Hkk
  iapply (load_head c vM q w 0 1 rfl) $$ Hv
  iintro Hv
  ihave Hk := Hk $$ Hkk Hv
  iapply (runs_ret c)
  iexact Hk

theorem part4_runs (q : PosShare TreeShare) (kk w : Vec F S2x128x4x64 .f32) (v49 : FVec F S2x128x4x64 .f32) (v68 v87 v89 : FVec F S128x64 .f32) {Q : _ → sProp 𝕄} :
    own c kM q kk ⊢ iprop(own c vM q w -∗ (own c kM q kk -∗ own c vM q w
          -∗ Q ⟨k0_pay7 v49 v68 v87 v89 (headAt kk 0 2) (headAt w 0 2) (headAt kk 0 3) (headAt w 0 3), k0_pay8 v49⟩)
        -∗ runs c (part4 v49 v68 v87 v89) Q) := by
  iintro Hkk Hv Hk
  unfold part4
  rw [k0_part4_eq_skeleton]
  unfold k0_part4_skel
  simp only [Prog.lift, Prog.bind_op, Prog.bind_ret, Prog.pure_eq_ret]
  iapply (load_head c kM q kk 0 2 rfl) $$ Hkk
  iintro Hkk
  iapply (load_head c vM q w 0 2 rfl) $$ Hv
  iintro Hv
  iapply (load_head c kM q kk 0 3 rfl) $$ Hkk
  iintro Hkk
  iapply (load_head c vM q w 0 3 rfl) $$ Hv
  iintro Hv
  ihave Hk := Hk $$ Hkk Hv
  iapply (runs_ret c)
  iexact Hk

theorem part5_runs (q : PosShare TreeShare) (kk w : Vec F S2x128x4x64 .f32) (v49 : FVec F S2x128x4x64 .f32) (v127 : FVec F S1x128x1x64 .f32) {Q : _ → sProp 𝕄} :
    own c kM q kk ⊢ iprop(own c vM q w -∗ (own c kM q kk -∗ own c vM q w
          -∗ Q ⟨k0_pay9 v127 (headAt kk 1 0) (headAt w 1 0), k0_pay10 v49 (headAt kk 1 1), headAt w 1 1⟩)
        -∗ runs c (part5 v49 v127) Q) := by
  iintro Hkk Hv Hk
  unfold part5
  rw [k0_part5_eq_skeleton]
  unfold k0_part5_skel
  simp only [Prog.lift, Prog.bind_op, Prog.bind_ret, Prog.pure_eq_ret]
  iapply (load_head c kM q kk 1 0 rfl) $$ Hkk
  iintro Hkk
  iapply (load_head c vM q w 1 0 rfl) $$ Hv
  iintro Hv
  iapply (load_head c kM q kk 1 1 rfl) $$ Hkk
  iintro Hkk
  iapply (load_head c vM q w 1 1 rfl) $$ Hv
  iintro Hv
  ihave Hk := Hk $$ Hkk Hv
  iapply (runs_ret c)
  iexact Hk

theorem part6_runs (q : PosShare TreeShare) (kk w : Vec F S2x128x4x64 .f32) (v49 : FVec F S2x128x4x64 .f32) (v161 : FVec F S128x128 .f32)
    (v162 : Vec F S1x128x1x64 .f32) {Q : _ → sProp 𝕄} :
    own c kM q kk ⊢ iprop(own c vM q w -∗ (own c kM q kk -∗ own c vM q w
          -∗ Q ⟨k0_pay11 v161 v162, k0_pay12 v49 (headAt kk 1 2) (headAt w 1 2), k0_pay13 v49 (headAt kk 1 3)⟩)
        -∗ runs c (part6 v49 v161 v162) Q) := by
  iintro Hkk Hv Hk
  unfold part6
  rw [k0_part6_eq_skeleton]
  unfold k0_part6_skel
  simp only [Prog.lift, Prog.bind_op, Prog.bind_ret, Prog.pure_eq_ret]
  iapply (load_head c kM q kk 1 2 rfl) $$ Hkk
  iintro Hkk
  iapply (load_head c vM q w 1 2 rfl) $$ Hv
  iintro Hv
  iapply (load_head c kM q kk 1 3 rfl) $$ Hkk
  iintro Hkk
  ihave Hk := Hk $$ Hkk Hv
  iapply (runs_ret c)
  iexact Hk

theorem part7_runs (q : PosShare TreeShare) (w : Vec F S2x128x4x64 .f32) (v126 : FVec F S128x256 .f32) (v145 v164 v183 : FVec F S128x64 .f32)
    (v199 : FVec F S128x128 .f32) (hT : v.T c = k0_pay14 v126 v145 v164 v183 v199 (headAt w 1 3) ((woM c).view.read (Elt F) (v.wo c)))
    (a b : BitVec 32) {Q : _ → sProp 𝕄} :
    env v K ⊢ iprop(owed c 6 -∗ own c vM q w -∗ crd c 5 -∗ pos c 5 -∗ junk c accM
        -∗ junk (peer (near 0) c) (pslot 0) -∗ tok c (at3 6 0) -∗ tok (peer (near 0) c) (at3 9 0)
        -∗ (owed c 7 -∗ own c vM q w -∗ done c 5 -∗ own c woS fullShare ((woM c).view.read (Elt F) (v.wo c)) -∗ hbm c (woM c) (v.wo c)
            -∗ crd c (at3 6 0) -∗ own c (rowsM (place c)) fullShare (blk (v.T c) (place c))
            -∗ own c (rowsM (other 1 (place c))) fullShare (blk (v.T c) (other 1 (place c)))
            -∗ own c (rowsM (other 2 (place c))) fullShare (blk (v.T c) (other 2 (place c))) -∗ ∀ r, Q r)
        -∗ runs c (part7 c a b v126 v145 v164 v183 v199) Q) := by
  iintro #He HO Hv Hc5 Hp5 Hacc Hd0 Ht0 Hu0 Hk
  unfold part7
  rw [k0_part7_eq_skeleton]
  unfold k0_part7_skel
  simp only [Prog.lift, Prog.bind_op, Prog.bind_ret, Prog.pure_eq_ret]
  iapply (load_head c vM q w 1 3 rfl) $$ Hv
  iintro Hv
  iapply (move_wait v K c 5 (by decide) 6 (by decide) (P := woPay v c) rfl rfl rfl) $$ He HO Hc5 Hp5
  iintro HO Hd5 Hw
  unfold woPay
  icases Hw with ⟨Hws, Hwo⟩
  iapply (load_full c woS fullShare _) $$ Hws
  iintro Hws
  iapply (load_junk c accM) $$ Hacc
  iintro Hacc %X
  iapply (store_full c accM) $$ Hacc
  rw [← hT]
  iintro Hacc
  ihave Hacc := (split_acc c (v.T c)) $$ Hacc
  icases Hacc with ⟨H0, H1, H2, H3⟩
  iapply (move_prs v K c 0 (rows3 c 0 rfl _ _) rfl (dev7_eq c) rfl rfl) $$ He HO H1 Hd0 Ht0 Hu0
  iintro Hc HO
  ihave Hk := Hk $$ HO Hv Hd5 Hws Hwo Hc H0 H2 H3
  iapply (runs_ret c)
  iapply Hk

end Cert.KernelIdeal.Cross

end
-- ==== Proof.Parts2.lean ====
/-
  The second half of the body, part by part: the three exchanges (blocks within the plane, blocks across the planes, finished blocks
  within the plane).
-/
module

public import proofs.«01_k».proof.Proof.Parts

@[expose] public section

noncomputable section

namespace Cert.KernelIdeal.Cross

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (v : Vals F) (K : GSem nD τ sig → ℕ) (c : Dev nD)

/-! ## Waits for a block -/

theorem credit_rows (b : Fin 4) : (rowsM b).view.dmaCredit = NB := rfl
theorem credit_pslot (o : Fin 3) : (pslot o).view.dmaCredit = NB := rfl
theorem credit_zslot (o : Fin 3) : (zslot o).view.dmaCredit = NB := rfl

/-- The wait of exchange `b`, step `o`, with the memref it names. -/
theorem wait_at (b : Fin 22) (hb : 6 ≤ b.val) (o : Fin 3) (n : ℕ)
    (hlev : ∀ i : Fin 15, n ≤ i.val → levNo (at3 b o) < if i.val < 6 then 1 else if i.val < 9 then 2 else if i.val < 12 then 3 else 4)
    {P : sProp 𝕄} (hP : dmaPay v (at3 b o) c = P)
    {src dst m : Memref sig .tc .vmem S64x512 .f32} (hdst : dst = m) (hN : m.view.dmaCredit = NB)
    {sm : DmaSem sig} (hs : at3 b o = sm) {h1 : src.view.WordExact} {h2 : dst.view.WordExact}
    {α : Type} {k : PUnit → Prog (TpuEff nD τ sig (Elt F) Λ₀ .tc) α} {Q : α → sProp 𝕄} :
    env v K ⊢ iprop(owed c n -∗ crd c (at3 b o) -∗ pos c (at3 b o) -∗ (owed c n -∗ done c (at3 b o) -∗ P -∗ runs c (k ⟨⟩) Q)
        -∗ runs c (.op (.waitDma2 sm src dst h1 h2) k) Q) := by
  subst hdst
  exact move_wait v K c (at3 b o) (four_le b (Nat.le_trans (by decide) hb) o) n hlev hP hs (hN.trans (credit_at3 b hb o).symm)

/-! ## The parts -/

abbrev part8 := k0_part8 (F := F) (Memref.whole cc0_stg0_0) (Memref.isWhole_whole _) (Memref.whole main_v1) (Memref.isWhole_whole _) (Memref.whole cc0_stg1_0) (Memref.isWhole_whole _) (Memref.whole cc0_stg2_0) (Memref.isWhole_whole _) (Memref.whole main_v2) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11
abbrev part9 := k0_part9 (F := F) (Memref.whole cc0_stg0_0) (Memref.isWhole_whole _) (Memref.whole main_v1) (Memref.isWhole_whole _) (Memref.whole cc0_stg1_0) (Memref.isWhole_whole _) (Memref.whole cc0_stg2_0) (Memref.isWhole_whole _) (Memref.whole main_v2) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11
abbrev part10 := k0_part10 (F := F) (Memref.whole cc0_stg0_0) (Memref.isWhole_whole _) (Memref.whole main_v1) (Memref.isWhole_whole _) (Memref.whole cc0_stg1_0) (Memref.isWhole_whole _) (Memref.whole cc0_stg2_0) (Memref.isWhole_whole _) (Memref.whole main_v2) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11
abbrev part11 := k0_part11 (F := F) (Memref.whole cc0_stg0_0) (Memref.isWhole_whole _) (Memref.whole main_v1) (Memref.isWhole_whole _) (Memref.whole cc0_stg1_0) (Memref.isWhole_whole _) (Memref.whole cc0_stg2_0) (Memref.isWhole_whole _) (Memref.whole main_v2) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11
abbrev part12 := k0_part12 (F := F) (Memref.whole cc0_stg0_0) (Memref.isWhole_whole _) (Memref.whole main_v1) (Memref.isWhole_whole _) (Memref.whole cc0_stg1_0) (Memref.isWhole_whole _) (Memref.whole cc0_stg2_0) (Memref.isWhole_whole _) (Memref.whole main_v2) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11
abbrev part13 := k0_part13 (F := F) (Memref.whole cc0_stg0_0) (Memref.isWhole_whole _) (Memref.whole main_v1) (Memref.isWhole_whole _) (Memref.whole cc0_stg1_0) (Memref.isWhole_whole _) (Memref.whole cc0_stg2_0) (Memref.isWhole_whole _) (Memref.whole main_v2) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11
abbrev part14 := k0_part14 (F := F) (Memref.whole cc0_stg0_0) (Memref.isWhole_whole _) (Memref.whole main_v1) (Memref.isWhole_whole _) (Memref.whole cc0_stg1_0) (Memref.isWhole_whole _) (Memref.whole cc0_stg2_0) (Memref.isWhole_whole _) (Memref.whole main_v2) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11
abbrev part15 := k0_part15 (F := F) (Memref.whole cc0_stg0_0) (Memref.isWhole_whole _) (Memref.whole main_v1) (Memref.isWhole_whole _) (Memref.whole cc0_stg1_0) (Memref.isWhole_whole _) (Memref.whole cc0_stg2_0) (Memref.isWhole_whole _) (Memref.whole main_v2) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11

theorem part8_runs (a b d : BitVec 32) {Q : _ → sProp 𝕄} :
    env v K ⊢ iprop(owed c 7 -∗ own c (rowsM (other 1 (place c))) fullShare (blk (v.T c) (other 1 (place c))) -∗ junk (peer (near 1) c) (pslot 1) -∗ tok c (at3 6 1) -∗ tok (peer (near 1) c) (at3 9 1) -∗ own c (rowsM (other 2 (place c))) fullShare (blk (v.T c) (other 2 (place c))) -∗ junk (peer (near 2) c) (pslot 2) -∗ tok c (at3 6 2) -∗ tok (peer (near 2) c) (at3 9 2)
        -∗ (owed c 9 -∗ crd c (at3 6 1) -∗ crd c (at3 6 2) -∗ ∀ r, Q r)
        -∗ runs c (part8 c a b d) Q) := by
  iintro #He HO Hs1 Hd1 Ht1 Hu1 Hs2 Hd2 Ht2 Hu2 Hk
  unfold part8
  rw [k0_part8_eq_skeleton]
  unfold k0_part8_skel
  simp only [Prog.lift, Prog.bind_op, Prog.bind_ret, Prog.pure_eq_ret]
  iapply (move_prs v K c 1 (rows3 c 1 rfl _ _) rfl (dev8_eq c) rfl rfl) $$ He HO Hs1 Hd1 Ht1 Hu1
  iintro Hc1 HO
  iapply (move_prs v K c 2 (rows3 c 2 rfl _ _) rfl (dev9_eq c) rfl rfl) $$ He HO Hs2 Hd2 Ht2 Hu2
  iintro Hc2 HO
  ihave Hk := Hk $$ HO Hc1 Hc2
  iapply (runs_ret c)
  iapply Hk

theorem part9_runs (a b d : BitVec 32) {Q : _ → sProp 𝕄} :
    env v K ⊢ iprop(owed c 9 -∗ crd c (at3 9 0) -∗ pos c (at3 9 0) -∗ crd c (at3 9 1) -∗ pos c (at3 9 1) -∗ crd c (at3 9 2) -∗ pos c (at3 9 2) -∗ own c (rowsM (place c)) fullShare (blk (v.T c) (place c))
        -∗ (owed c 9 -∗ done c (at3 9 0) -∗ done c (at3 9 1) -∗ done c (at3 9 2) -∗ own c (pslot 0) fullShare (blk (v.T (peer (near 0) c)) (place c)) -∗ own c (pslot 1) fullShare (blk (v.T (peer (near 1) c)) (place c)) -∗ own c (pslot 2) fullShare (blk (v.T (peer (near 2) c)) (place c)) -∗ junk (peer (near 0) c) (rowsM (place c)) -∗ junk (peer (near 1) c) (rowsM (place c)) -∗ junk (peer (near 2) c) (rowsM (place c)) -∗ own c (rowsM (place c)) fullShare (blk (v.T c) (place c)) -∗ Q (A1 v c))
        -∗ runs c (part9 c a b d) Q) := by
  iintro #He HO Hc90 Hp90 Hc91 Hp91 Hc92 Hp92 Hr Hk
  unfold part9
  rw [k0_part9_eq_skeleton]
  unfold k0_part9_skel
  simp only [Prog.lift, Prog.bind_op, Prog.bind_ret, Prog.pure_eq_ret]
  iapply (wait_at v K c 9 (by decide) 0 9 (by decide) (pay_at9 v 0 c) rfl (credit_pslot 0) rfl) $$ He HO Hc90 Hp90
  iintro HO Hd90 Hq0
  unfold prsPay
  icases Hq0 with ⟨Hs0, Hl0⟩
  iapply (wait_at v K c 9 (by decide) 1 9 (by decide) (pay_at9 v 1 c) rfl (credit_pslot 1) rfl) $$ He HO Hc91 Hp91
  iintro HO Hd91 Hq1
  unfold prsPay
  icases Hq1 with ⟨Hs1, Hl1⟩
  iapply (wait_at v K c 9 (by decide) 2 9 (by decide) (pay_at9 v 2 c) rfl (credit_pslot 2) rfl) $$ He HO Hc92 Hp92
  iintro HO Hd92 Hq2
  unfold prsPay
  icases Hq2 with ⟨Hs2, Hl2⟩
  iapply (load_rows c (place c) fullShare _ (off4_eq c)) $$ Hr
  iintro Hr
  iapply (load_slot c pslabM 0 fullShare _ rfl) $$ Hs0
  iintro Hs0
  iapply (load_slot c pslabM 1 fullShare _ rfl) $$ Hs1
  iintro Hs1
  iapply (load_slot c pslabM 2 fullShare _ rfl) $$ Hs2
  iintro Hs2
  iapply (load_rows c (place c) fullShare _ (off4_eq c)) $$ Hr
  iintro Hr
  ihave Hk := Hk $$ HO Hd90 Hd91 Hd92 Hs0 Hs1 Hs2 Hl0 Hl1 Hl2 Hr
  iapply (runs_ret c)
  unfold A1
  iexact Hk

theorem part10_runs (a b : BitVec 32) (X : FVec F S64x512 .f32) {Q : _ → sProp 𝕄} :
    env v K ⊢ iprop(owed c 9 -∗ own c (rowsM (place c)) fullShare (blk (v.T c) (place c)) -∗ crd c (at3 6 0) -∗ pos c (at3 6 0) -∗ crd c (at3 6 1) -∗ pos c (at3 6 1) -∗ crd c (at3 6 2) -∗ pos c (at3 6 2)
        -∗ (owed c 9 -∗ done c (at3 6 0) -∗ done c (at3 6 1) -∗ done c (at3 6 2) -∗ own c (rowsM (place c)) fullShare X -∗ ∀ r, Q r)
        -∗ runs c (part10 c a b X) Q) := by
  iintro #He HO Hr Hc60 Hp60 Hc61 Hp61 Hc62 Hp62 Hk
  unfold part10
  rw [k0_part10_eq_skeleton]
  unfold k0_part10_skel
  simp only [Prog.lift, Prog.bind_op, Prog.bind_ret, Prog.pure_eq_ret]
  iapply (store_rows c (place c) _ _ (off4_eq c)) $$ Hr
  iintro Hr
  iapply (wait_at v K c 6 (by decide) 0 9 (by decide) (pay_at6 v 0 c) (rows3 c 0 rfl _ _) (credit_rows _) rfl) $$ He HO Hc60 Hp60
  iintro HO Hd60 -
  iapply (wait_at v K c 6 (by decide) 1 9 (by decide) (pay_at6 v 1 c) (rows3 c 1 rfl _ _) (credit_rows _) rfl) $$ He HO Hc61 Hp61
  iintro HO Hd61 -
  iapply (wait_at v K c 6 (by decide) 2 9 (by decide) (pay_at6 v 2 c) (rows3 c 2 rfl _ _) (credit_rows _) rfl) $$ He HO Hc62 Hp62
  iintro HO Hd62 -
  ihave Hk := Hk $$ HO Hd60 Hd61 Hd62 Hr
  iapply (runs_ret c)
  iapply Hk

theorem part11_runs (a b d : BitVec 32) {Q : _ → sProp 𝕄} :
    env v K ⊢ iprop(owed c 9 -∗ own c (rowsM (place c)) (part 0) (A1 v c) -∗ junk (peer (far 0) c) (zslot 0) -∗ tok c (at3 12 0) -∗ tok (peer (far 0) c) (at3 15 0) -∗ own c (rowsM (place c)) (part 1) (A1 v c) -∗ junk (peer (far 1) c) (zslot 1) -∗ tok c (at3 12 1) -∗ tok (peer (far 1) c) (at3 15 1) -∗ own c (rowsM (place c)) (part 2) (A1 v c) -∗ junk (peer (far 2) c) (zslot 2) -∗ tok c (at3 12 2) -∗ tok (peer (far 2) c) (at3 15 2)
        -∗ (owed c 12 -∗ crd c (at3 12 0) -∗ crd c (at3 12 1) -∗ crd c (at3 12 2) -∗ ∀ r, Q r)
        -∗ runs c (part11 c a b d) Q) := by
  iintro #He HO Hs0 Hd0 Ht0 Hu0 Hs1 Hd1 Ht1 Hu1 Hs2 Hd2 Ht2 Hu2 Hk
  unfold part11
  rw [k0_part11_eq_skeleton]
  unfold k0_part11_skel
  simp only [Prog.lift, Prog.bind_op, Prog.bind_ret, Prog.pure_eq_ret]
  iapply (move_zb v K c 0 (rows5 c _ _) rfl (dev10_eq c) rfl rfl) $$ He HO Hs0 Hd0 Ht0 Hu0
  iintro Hc0 HO
  iapply (move_zb v K c 1 (rows5 c _ _) rfl (dev11_eq c) rfl rfl) $$ He HO Hs1 Hd1 Ht1 Hu1
  iintro Hc1 HO
  iapply (move_zb v K c 2 (rows5 c _ _) rfl (dev12_eq c) rfl rfl) $$ He HO Hs2 Hd2 Ht2 Hu2
  iintro Hc2 HO
  ihave Hk := Hk $$ HO Hc0 Hc1 Hc2
  iapply (runs_ret c)
  iapply Hk

theorem part12_runs (a b : BitVec 32) {Q : _ → sProp 𝕄} :
    env v K ⊢ iprop(owed c 12 -∗ crd c (at3 15 0) -∗ pos c (at3 15 0) -∗ crd c (at3 12 0) -∗ pos c (at3 12 0) -∗ crd c (at3 15 1) -∗ pos c (at3 15 1) -∗ crd c (at3 12 1) -∗ pos c (at3 12 1)
        -∗ (owed c 12 -∗ done c (at3 15 0) -∗ done c (at3 12 0) -∗ done c (at3 15 1) -∗ done c (at3 12 1) -∗ zbPay v 0 c -∗ lentPay 0 (A1 v) c -∗ zbPay v 1 c -∗ lentPay 1 (A1 v) c -∗ Q ⟨⟩)
        -∗ runs c (part12 c a b) Q) := by
  iintro #He HO Hc150 Hp150 Hc120 Hp120 Hc151 Hp151 Hc121 Hp121 Hk
  unfold part12
  rw [k0_part12_eq_skeleton]
  unfold k0_part12_skel
  simp only [Prog.lift, Prog.bind_op, Prog.bind_ret, Prog.pure_eq_ret]
  iapply (wait_at v K c 15 (by decide) 0 12 (by decide) (pay_at15 v 0 c) rfl (credit_zslot 0) rfl) $$ He HO Hc150 Hp150
  iintro HO Hd150 Hs0
  iapply (wait_at v K c 12 (by decide) 0 12 (by decide) (pay_at12 v 0 c) (rows5 c _ _) (credit_rows _) rfl) $$ He HO Hc120 Hp120
  iintro HO Hd120 Hl0
  iapply (wait_at v K c 15 (by decide) 1 12 (by decide) (pay_at15 v 1 c) rfl (credit_zslot 1) rfl) $$ He HO Hc151 Hp151
  iintro HO Hd151 Hs1
  iapply (wait_at v K c 12 (by decide) 1 12 (by decide) (pay_at12 v 1 c) (rows5 c _ _) (credit_rows _) rfl) $$ He HO Hc121 Hp121
  iintro HO Hd121 Hl1
  ihave Hk := Hk $$ HO Hd150 Hd120 Hd151 Hd121 Hs0 Hl0 Hs1 Hl1
  iapply (runs_ret c)
  iapply Hk

theorem part13_runs (a b d : BitVec 32) {Q : _ → sProp 𝕄} :
    env v K ⊢ iprop(owed c 12 -∗ crd c (at3 15 2) -∗ pos c (at3 15 2) -∗ crd c (at3 12 2) -∗ pos c (at3 12 2) -∗ zbPay v 0 c -∗ lentPay 0 (A1 v) c -∗ zbPay v 1 c -∗ lentPay 1 (A1 v) c
        -∗ (owed c 12 -∗ done c (at3 15 2) -∗ done c (at3 12 2) -∗ own c (zslot 0) fullShare (A1 v (peer (far 0) c)) -∗ own c (zslot 1) fullShare (A1 v (peer (far 1) c)) -∗ own c (zslot 2) fullShare (A1 v (peer (far 2) c)) -∗ own c (rowsM (place c)) fullShare (A2 v c) -∗ ∀ r, Q r)
        -∗ runs c (part13 c a b d) Q) := by
  iintro #He HO Hc152 Hp152 Hc122 Hp122 Hs0 Hl0 Hs1 Hl1 Hk
  unfold part13
  rw [k0_part13_eq_skeleton]
  unfold k0_part13_skel
  simp only [Prog.lift, Prog.bind_op, Prog.bind_ret, Prog.pure_eq_ret]
  iapply (wait_at v K c 15 (by decide) 2 12 (by decide) (pay_at15 v 2 c) rfl (credit_zslot 2) rfl) $$ He HO Hc152 Hp152
  iintro HO Hd152 Hs2
  iapply (wait_at v K c 12 (by decide) 2 12 (by decide) (pay_at12 v 2 c) (rows5 c _ _) (credit_rows _) rfl) $$ He HO Hc122 Hp122
  iintro HO Hd122 Hl2
  unfold zbPay lentPay
  ihave Hr := (join_share c (rowsM (place c)) (A1 v c)) $$ [Hl0 Hl1 Hl2]
  · isplitl [Hl0]; · iexact Hl0
    isplitl [Hl1]; · iexact Hl1
    iexact Hl2
  iapply (load_rows c (place c) fullShare _ (off4_eq c)) $$ Hr
  iintro Hr
  iapply (load_slot c zslabM 0 fullShare _ rfl) $$ Hs0
  iintro Hs0
  iapply (load_slot c zslabM 1 fullShare _ rfl) $$ Hs1
  iintro Hs1
  iapply (load_slot c zslabM 2 fullShare _ rfl) $$ Hs2
  iintro Hs2
  iapply (load_rows c (place c) fullShare _ (off4_eq c)) $$ Hr
  iintro Hr
  iapply (store_rows c (place c) _ (A2 v c) (off4_eq c)) $$ Hr
  iintro Hr
  ihave Hk := Hk $$ HO Hd152 Hd122 Hs0 Hs1 Hs2 Hr
  iapply (runs_ret c)
  iapply Hk

theorem part14_runs (a b d : BitVec 32) {Q : _ → sProp 𝕄} :
    env v K ⊢ iprop(owed c 12 -∗ own c (rowsM (place c)) (part 0) (A2 v c) -∗ junk (peer (near 0) c) (rowsM (place c)) -∗ tok c (at3 18 0) -∗ tok (peer (near 0) c) (at3 21 0) -∗ own c (rowsM (place c)) (part 1) (A2 v c) -∗ junk (peer (near 1) c) (rowsM (place c)) -∗ tok c (at3 18 1) -∗ tok (peer (near 1) c) (at3 21 1) -∗ own c (rowsM (place c)) (part 2) (A2 v c) -∗ junk (peer (near 2) c) (rowsM (place c)) -∗ tok c (at3 18 2) -∗ tok (peer (near 2) c) (at3 21 2) -∗ crd c (at3 21 0) -∗ pos c (at3 21 0) -∗ pos c (at3 18 0)
        -∗ (owed c 15 -∗ crd c (at3 18 1) -∗ crd c (at3 18 2) -∗ done c (at3 21 0) -∗ done c (at3 18 0) -∗ pagPay v 0 c -∗ lentPay 0 (A2 v) c -∗ ∀ r, Q r)
        -∗ runs c (part14 c a b d) Q) := by
  iintro #He HO Hs0 Hd0 Ht0 Hu0 Hs1 Hd1 Ht1 Hu1 Hs2 Hd2 Ht2 Hu2 Hc210 Hp210 Hp180 Hk
  unfold part14
  rw [k0_part14_eq_skeleton]
  unfold k0_part14_skel
  simp only [Prog.lift, Prog.bind_op, Prog.bind_ret, Prog.pure_eq_ret]
  iapply (move_pag v K c 0 (rows5 c _ _) (rows5 c _ _) (dev13_eq c) rfl rfl) $$ He HO Hs0 Hd0 Ht0 Hu0
  iintro Hc180 HO
  iapply (move_pag v K c 1 (rows5 c _ _) (rows5 c _ _) (dev14_eq c) rfl rfl) $$ He HO Hs1 Hd1 Ht1 Hu1
  iintro Hc181 HO
  iapply (move_pag v K c 2 (rows5 c _ _) (rows5 c _ _) (dev15_eq c) rfl rfl) $$ He HO Hs2 Hd2 Ht2 Hu2
  iintro Hc182 HO
  iapply (wait_at v K c 21 (by decide) 0 15 (by decide) (pay_at21 v 0 c) (rows5 c _ _) (credit_rows _) rfl) $$ He HO Hc210 Hp210
  iintro HO Hd210 Hg0
  iapply (wait_at v K c 18 (by decide) 0 15 (by decide) (pay_at18 v 0 c) (rows5 c _ _) (credit_rows _) rfl) $$ He HO Hc180 Hp180
  iintro HO Hd180 Hl0
  ihave Hk := Hk $$ HO Hc181 Hc182 Hd210 Hd180 Hg0 Hl0
  iapply (runs_ret c)
  iapply Hk

end Cert.KernelIdeal.Cross

end
-- ==== Proof.Body.lean ====
/-
  The whole body on one device, with what it starts from and what it leaves.
-/
module

public import proofs.«01_k».proof.Proof.Parts2

@[expose] public section

noncomputable section

namespace Cert.KernelIdeal.Cross

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (v : Vals F) (K : GSem nD τ sig → ℕ) (c : Dev nD)

/-! ## Lists -/

/-- The twenty DMA semaphores of the kernel, by number. -/
abbrev at20 (i : Fin 20) : Fin 24 := ⟨4 + i.val, by omega⟩

theorem list20 (Φ : Fin 24 → sProp 𝕄) : bigSep Finset.univ (fun i : Fin 20 => Φ (at20 i))
    = iprop(Φ 4 ∗ Φ 5 ∗ Φ (at3 6 0) ∗ Φ (at3 6 1) ∗ Φ (at3 6 2) ∗ Φ (at3 9 0) ∗ Φ (at3 9 1) ∗ Φ (at3 9 2) ∗ Φ (at3 12 0) ∗ Φ (at3 12 1) ∗ Φ (at3 12 2) ∗ Φ (at3 15 0) ∗ Φ (at3 15 1) ∗ Φ (at3 15 2) ∗ Φ (at3 18 0) ∗ Φ (at3 18 1) ∗ Φ (at3 18 2) ∗ Φ (at3 21 0) ∗ Φ (at3 21 1) ∗ Φ (at3 21 2)) :=
  bigSep_univ_eq_bigSepL [0, 1, 2, 3, 4, 5, 6, 7, 8, 9, 10, 11, 12, 13, 14, 15, 16, 17, 18, 19] (by decide) (by decide) _
theorem list6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) _
theorem list3 (Φ : Fin 3 → sProp 𝕄) : bigSep Finset.univ Φ = iprop(Φ 0 ∗ Φ 1 ∗ Φ 2) :=
  bigSep_univ_eq_bigSepL [0, 1, 2] (by decide) (by decide) _

/-- Which partner's counter the device's own transfer counts on (none: its own). -/
def homeJ (k : Fin 24) : Option (Fin 6) :=
  match k.val with
  | 9 => some 0 | 10 => some 1 | 11 => some 2 | 15 => some 3 | 16 => some 4 | 17 => some 5 | 21 => some 0 | 22 => some 1 | 23 => some 2
  | _ => none
/-- The device on whose semaphore `k` a transfer of device `c` is counted. -/
def home (k : Fin 24) (c : Dev nD) : Dev nD := match homeJ k with | some j => peer j c | none => c

theorem home_home (k : Fin 24) (c : Dev nD) : home k (home k c) = c := by
  unfold home
  cases homeJ k with
  | some j => exact peer_peer j c
  | none => rfl

/-! ## Before and after -/

/-- Everything a device holds for its schedule at the start: its tickets, its counters at their first round, and the credits the
    arriving transfers will answer. -/
def start0 : sProp 𝕄 := iprop(
  bigSep Finset.univ (fun j : Fin 6 => dutyTok ER (barCell (peer j c)) 0 j)
  ∗ cred (tallyAt (barCell c) () 6) ∗ atPos ER (barCell c) 0 ∅ 0
  ∗ bigSep Finset.univ (fun i : Fin 20 => dutyTok ER (dCell (home (at20 i) c) (at20 i)) 0 0)
  ∗ bigSep Finset.univ (fun i : Fin 20 => pos (F := F) c (at20 i))
  ∗ bigSep Finset.univ (fun i : Fin 20 => reached ER (dCell c (at20 i)) 0)
  ∗ bigSep Finset.univ (fun o : Fin 3 => crd (F := F) c (at3 9 o))
  ∗ bigSep Finset.univ (fun o : Fin 3 => crd (F := F) c (at3 15 o))
  ∗ bigSep Finset.univ (fun o : Fin 3 => crd (F := F) c (at3 21 o)))

/-- The same, and what it owes. -/
def start : sProp 𝕄 := iprop(owed (F := F) c 0 ∗ start0 (F := F) c)

/-- What is left of it: every semaphore at zero. -/
def finish0 : sProp 𝕄 := iprop(
  semVal (barCell c) 0 ∗ bigSep Finset.univ (fun i : Fin 20 => done (F := F) c (at20 i)))

/-- The same, and nothing owed. -/
def finish : sProp 𝕄 := iprop(owed (F := F) c 15 ∗ finish0 (F := F) c)

/-- The scratch buffers, at contents nobody has chosen. -/
def scratch : sProp 𝕄 := iprop(
  junk (F := F) c accM ∗ bigSep Finset.univ (fun j : Fin 6 => junk (F := F) c (slotM j)) ∗ junk (F := F) c wqS ∗ junk (F := F) c woS)

/-- The two weight slices in main memory. -/
def slices : sProp 𝕄 := iprop(hbm c (wqM c) (v.wq c) ∗ hbm c (woM c) (v.wo c))

/-- The barrier's six handed-over slots, with the partners named as the exchanges name them. -/
theorem bar_open : bigSep Finset.univ (fun j => barPay (F := F) c j) ⊢ iprop(
    (junk (peer (near 0) c) (pslot 0) ∗ reached ER (dCell (peer (near 0) c) (at3 9 0)) 0 ∗ reached ER (dCell (peer (near 0) c) (at3 21 0)) 0)
    ∗ (junk (peer (near 1) c) (pslot 1) ∗ reached ER (dCell (peer (near 1) c) (at3 9 1)) 0 ∗ reached ER (dCell (peer (near 1) c) (at3 21 1)) 0)
    ∗ (junk (peer (near 2) c) (pslot 2) ∗ reached ER (dCell (peer (near 2) c) (at3 9 2)) 0 ∗ reached ER (dCell (peer (near 2) c) (at3 21 2)) 0)
    ∗ (junk (peer (far 0) c) (zslot 0) ∗ reached ER (dCell (peer (far 0) c) (at3 15 0)) 0 ∗ reached ER (dCell (peer (far 0) c) (at3 21 0)) 0)
    ∗ (junk (peer (far 1) c) (zslot 1) ∗ reached ER (dCell (peer (far 1) c) (at3 15 1)) 0 ∗ reached ER (dCell (peer (far 1) c) (at3 21 1)) 0)
    ∗ (junk (peer (far 2) c) (zslot 2) ∗ reached ER (dCell (peer (far 2) c) (at3 15 2)) 0 ∗ reached ER (dCell (peer (far 2) c) (at3 21 2)) 0)) := by
  rw [list6]
  exact .rfl

/-- Running a sequence is running its parts in turn. -/
theorem runs_bind {α β : Type} {p : Prog (TpuEff nD τ sig (Elt F) Λ₀ .tc) α} {k : α → Prog (TpuEff nD τ sig (Elt F) Λ₀ .tc) β} {Q : β → sProp 𝕄} :
    runs c p (fun r => runs c (k r) Q) ⊢ runs c (p >>= k) Q := by
  unfold runs
  rw [wp_bind]

theorem own_junk {sp : Space} {s : Shape} {e : EltTy} (m : Memref sig .tc sp s e) (X : Vec F s e) :
    own c m fullShare X ⊢ junk c m := by
  iintro H
  iexists _
  iexact H

theorem part15_runs (x : Vec F S2x128x512 .f32) (k w : Vec F S2x128x4x64 .f32)
    (hT : v.T c = tval x ((wqM c).view.read (Elt F) (v.wq c)) k w ((woM c).view.read (Elt F) (v.wo c))) {Q : PUnit → sProp 𝕄} :
    env v K ⊢ iprop(start (F := F) c -∗ own c xM fullShare x -∗ own c kM fullShare k -∗ own c vM fullShare w -∗ slices v c -∗ scratch (F := F) c
      -∗ (finish (F := F) c -∗ own c xM fullShare x -∗ own c kM fullShare k -∗ own c vM fullShare w -∗ slices v c
          -∗ own c accM fullShare (fin v c)
          -∗ bigSep Finset.univ (fun j : Fin 6 => junk (F := F) c (slotM j)) -∗ junk (F := F) c wqS -∗ junk (F := F) c woS -∗ Q ⟨⟩)
      -∗ runs c part15 Q) := by
  unfold start start0 slices scratch
  rw [list6, list6, list20 (fun k => dutyTok ER (dCell (home k c) k) 0 0), list20 (fun k => pos (F := F) c k),
    list20 (fun k => reached ER (dCell c k) 0), list3, list3, list3]
  iintro #He ⟨HO, HB, Hcb, Hab, HT, HP, #HR, ⟨Hc90, Hc91, Hc92⟩, ⟨Hc150, Hc151, Hc152⟩, ⟨Hc210, Hc211, Hc212⟩⟩ Hx Hk Hv ⟨Hwq, Hwo⟩ ⟨Hacc, ⟨Hj0, Hj1, Hj2, Hj3, Hj4, Hj5⟩, Hqs, Hos⟩ HQ
  icases HB with ⟨Hb0, Hb1, Hb2, Hb3, Hb4, Hb5⟩
  icases HT with ⟨Ht4, Ht5, Ht60, Ht61, Ht62, Ht90, Ht91, Ht92, Ht120, Ht121, Ht122, Ht150, Ht151, Ht152, Ht180, Ht181, Ht182, Ht210, Ht211, Ht212⟩
  icases HP with ⟨Hp4, Hp5, Hp60, Hp61, Hp62, Hp90, Hp91, Hp92, Hp120, Hp121, Hp122, Hp150, Hp151, Hp152, Hp180, Hp181, Hp182, Hp210, Hp211, Hp212⟩
  icases HR with ⟨#Hr4, #Hr5, #Hr60, #Hr61, #Hr62, #Hr90, #Hr91, #Hr92, #Hr120, #Hr121, #Hr122, #Hr150, #Hr151, #Hr152, #Hr180, #Hr181, #Hr182, #Hr210, #Hr211, #Hr212⟩
  unfold part15
  rw [k0_part15_eq_skeleton]
  unfold k0_part15_skel
  simp only [Prog.lift, Prog.bind_op, Prog.bind_ret, Prog.pure_eq_ret]
  ihave Hg0 : sig1 (F := F) c 0 $$ [Hb0 Hj0]
  · unfold sig1
    isplitl [Hb0]; · iexact Hb0
    isplitl [Hj0]; · iexact Hj0
    isplitr; · iexact Hr90
    iexact Hr210
  ihave Hg1 : sig1 (F := F) c 1 $$ [Hb1 Hj1]
  · unfold sig1
    isplitl [Hb1]; · iexact Hb1
    isplitl [Hj1]; · iexact Hj1
    isplitr; · iexact Hr91
    iexact Hr211
  ihave Hg2 : sig1 (F := F) c 2 $$ [Hb2 Hj2]
  · unfold sig1
    isplitl [Hb2]; · iexact Hb2
    isplitl [Hj2]; · iexact Hj2
    isplitr; · iexact Hr92
    iexact Hr212
  ihave Hg3 : sig1 (F := F) c 3 $$ [Hb3 Hj3]
  · unfold sig1
    isplitl [Hb3]; · iexact Hb3
    isplitl [Hj3]; · iexact Hj3
    isplitr; · iexact Hr150
    iexact Hr210
  ihave Hg4 : sig1 (F := F) c 4 $$ [Hb4 Hj4]
  · unfold sig1
    isplitl [Hb4]; · iexact Hb4
    isplitl [Hj4]; · iexact Hj4
    isplitr; · iexact Hr151
    iexact Hr211
  ihave Hg5 : sig1 (F := F) c 5 $$ [Hb5 Hj5]
  · unfold sig1
    isplitl [Hb5]; · iexact Hb5
    isplitl [Hj5]; · iexact Hj5
    isplitr; · iexact Hr152
    iexact Hr212
  ihave Hk4 : tok (F := F) c 4 $$ [Ht4]
  · isplitl [Ht4]; · iexact Ht4
    iexact Hr4
  ihave Hk5 : tok (F := F) c 5 $$ [Ht5]
  · isplitl [Ht5]; · iexact Ht5
    iexact Hr5
  ihave Hk60 : tok (F := F) c (at3 6 0) $$ [Ht60]
  · isplitl [Ht60]; · iexact Ht60
    iexact Hr60
  ihave Hk61 : tok (F := F) c (at3 6 1) $$ [Ht61]
  · isplitl [Ht61]; · iexact Ht61
    iexact Hr61
  ihave Hk62 : tok (F := F) c (at3 6 2) $$ [Ht62]
  · isplitl [Ht62]; · iexact Ht62
    iexact Hr62
  ihave Hk120 : tok (F := F) c (at3 12 0) $$ [Ht120]
  · isplitl [Ht120]; · iexact Ht120
    iexact Hr120
  ihave Hk121 : tok (F := F) c (at3 12 1) $$ [Ht121]
  · isplitl [Ht121]; · iexact Ht121
    iexact Hr121
  ihave Hk122 : tok (F := F) c (at3 12 2) $$ [Ht122]
  · isplitl [Ht122]; · iexact Ht122
    iexact Hr122
  ihave Hk180 : tok (F := F) c (at3 18 0) $$ [Ht180]
  · isplitl [Ht180]; · iexact Ht180
    iexact Hr180
  ihave Hk181 : tok (F := F) c (at3 18 1) $$ [Ht181]
  · isplitl [Ht181]; · iexact Ht181
    iexact Hr181
  ihave Hk182 : tok (F := F) c (at3 18 2) $$ [Ht182]
  · isplitl [Ht182]; · iexact Ht182
    iexact Hr182
  iapply (runs_bind c)
  iapply (part1_runs v K c) $$ He HO Hwq Hqs Hk4 Hwo Hos Hk5 Hg0 Hg3 Hg1
  iintro HO Hc4 Hc5 %v3 %v4 %v5 %v26
  iapply (runs_bind c)
  iapply (part2_runs v K c fullShare x k v3 v4 v5 v26) $$ He HO Hg4 Hg2 Hg5 Hcb Hab Hc4 Hp4 Hx Hk
  iintro HO Hbar Hpay Hd4 Hx Hk Hqs Hwq
  ihave Hpay := (bar_open c) $$ Hpay
  icases Hpay with ⟨⟨Hn0, #Hra0, #Hrg0⟩, ⟨Hn1, #Hra1, #Hrg1⟩, ⟨Hn2, #Hra2, #Hrg2⟩, ⟨Hf0, #Hrz0, -⟩, ⟨Hf1, #Hrz1, -⟩, ⟨Hf2, #Hrz2, -⟩⟩
  ihave Hk90 : tok (F := F) (peer (near 0) c) (at3 9 0) $$ [Ht90]
  · isplitl [Ht90]; · iexact Ht90
    iexact Hra0
  ihave Hk150 : tok (F := F) (peer (far 0) c) (at3 15 0) $$ [Ht150]
  · isplitl [Ht150]; · iexact Ht150
    iexact Hrz0
  ihave Hk210 : tok (F := F) (peer (near 0) c) (at3 21 0) $$ [Ht210]
  · isplitl [Ht210]; · iexact Ht210
    iexact Hrg0
  ihave Hk91 : tok (F := F) (peer (near 1) c) (at3 9 1) $$ [Ht91]
  · isplitl [Ht91]; · iexact Ht91
    iexact Hra1
  ihave Hk151 : tok (F := F) (peer (far 1) c) (at3 15 1) $$ [Ht151]
  · isplitl [Ht151]; · iexact Ht151
    iexact Hrz1
  ihave Hk211 : tok (F := F) (peer (near 1) c) (at3 21 1) $$ [Ht211]
  · isplitl [Ht211]; · iexact Ht211
    iexact Hrg1
  ihave Hk92 : tok (F := F) (peer (near 2) c) (at3 9 2) $$ [Ht92]
  · isplitl [Ht92]; · iexact Ht92
    iexact Hra2
  ihave Hk152 : tok (F := F) (peer (far 2) c) (at3 15 2) $$ [Ht152]
  · isplitl [Ht152]; · iexact Ht152
    iexact Hrz2
  ihave Hk212 : tok (F := F) (peer (near 2) c) (at3 21 2) $$ [Ht212]
  · isplitl [Ht212]; · iexact Ht212
    iexact Hrg2
  iapply (runs_bind c)
  iapply (part3_runs c fullShare k w) $$ Hk Hv
  iintro Hk Hv
  iapply (runs_bind c)
  iapply (part4_runs c fullShare k w) $$ Hk Hv
  iintro Hk Hv
  iapply (runs_bind c)
  iapply (part5_runs c fullShare k w) $$ Hk Hv
  iintro Hk Hv
  iapply (runs_bind c)
  iapply (part6_runs c fullShare k w) $$ Hk Hv
  iintro Hk Hv
  iapply (runs_bind c)
  iapply (part7_runs v K c fullShare w _ _ _ _ _ hT v3 v5) $$ He HO Hv Hc5 Hp5 Hacc Hn0 Hk60 Hk90
  iintro HO Hv Hd5 Hos Hwo Hc60 Ho Ho1 Ho2 %r
  obtain ⟨v214, v218⟩ := r
  iapply (runs_bind c)
  iapply (part8_runs v K c v3 v5 v218) $$ He HO Ho1 Hn1 Hk61 Hk91 Ho2 Hn2 Hk62 Hk92
  iintro HO Hc61 Hc62 %r
  obtain ⟨v231, v244⟩ := r
  iapply (runs_bind c)
  iapply (part9_runs v K c v214 v231 v244) $$ He HO Hc90 Hp90 Hc91 Hp91 Hc92 Hp92 Ho
  iintro HO Hd90 Hd91 Hd92 Hs0 Hs1 Hs2 Hl0 Hl1 Hl2 Ho
  iapply (runs_bind c)
  iapply (part10_runs v K c v3 v4 (A1 v c)) $$ He HO Ho Hc60 Hp60 Hc61 Hp61 Hc62 Hp62
  iintro HO Hd60 Hd61 Hd62 Ho %v307
  ihave Ho := (split_share c (rowsM (place c)) (A1 v c)) $$ Ho
  icases Ho with ⟨Ho0, Ho1, Ho2⟩
  iapply (runs_bind c)
  iapply (part11_runs v K c v3 v4 v307) $$ He HO Ho0 Hf0 Hk120 Hk150 Ho1 Hf1 Hk121 Hk151 Ho2 Hf2 Hk122 Hk152
  iintro HO Hc120 Hc121 Hc122 %r
  obtain ⟨v319, v331⟩ := r
  iapply (runs_bind c)
  iapply (part12_runs v K c v319 v331) $$ He HO Hc150 Hp150 Hc120 Hp120 Hc151 Hp151 Hc121 Hp121
  iintro HO Hd150 Hd120 Hd151 Hd121 Hz0 Ha0 Hz1 Ha1
  iapply (runs_bind c)
  iapply (part13_runs v K c v3 v5 v214) $$ He HO Hc152 Hp152 Hc122 Hp122 Hz0 Ha0 Hz1 Ha1
  iintro HO Hd152 Hd122 Hz0 Hz1 Hz2 Ho %v393
  ihave Ho := (split_share c (rowsM (place c)) (A2 v c)) $$ Ho
  icases Ho with ⟨Ho0, Ho1, Ho2⟩
  iapply (runs_bind c)
  iapply (part14_runs v K c v3 v5 v393) $$ He HO Ho0 Hl0 Hk180 Hk210 Ho1 Hl1 Hk181 Hk211 Ho2 Hl2 Hk182 Hk212 Hc210 Hp210 Hp180
  iintro HO Hc181 Hc182 Hd210 Hd180 Hg0 Ha0 %r
  obtain ⟨v403, v413⟩ := r
  iapply (wait_at v K c 21 (by decide) 1 15 (by decide) (pay_at21 v 1 c) (rows5 c _ _) (credit_rows _) rfl) $$ He HO Hc211 Hp211
  iintro HO Hd211 Hg1
  iapply (wait_at v K c 18 (by decide) 1 15 (by decide) (pay_at18 v 1 c) (rows5 c _ _) (credit_rows _) rfl) $$ He HO Hc181 Hp181
  iintro HO Hd181 Ha1
  iapply (wait_at v K c 21 (by decide) 2 15 (by decide) (pay_at21 v 2 c) (rows5 c _ _) (credit_rows _) rfl) $$ He HO Hc212 Hp212
  iintro HO Hd212 Hg2
  iapply (wait_at v K c 18 (by decide) 2 15 (by decide) (pay_at18 v 2 c) (rows5 c _ _) (credit_rows _) rfl) $$ He HO Hc182 Hp182
  iintro HO Hd182 Ha2
  unfold pagPay lentPay
  ihave Ho := (join_share c (rowsM (place c)) (A2 v c)) $$ [Ha0 Ha1 Ha2]
  · isplitl [Ha0]; · iexact Ha0
    isplitl [Ha1]; · iexact Ha1
    iexact Ha2
  ihave Hacc := (join_acc v c) $$ [Ho Hg0 Hg1 Hg2]
  · isplitl [Ho]; · iexact Ho
    isplitl [Hg0]; · iexact Hg0
    isplitl [Hg1]; · iexact Hg1
    iexact Hg2
  ihave Hs0 := (own_junk c _ _) $$ Hs0
  ihave Hs1 := (own_junk c _ _) $$ Hs1
  ihave Hs2 := (own_junk c _ _) $$ Hs2
  ihave Hz0 := (own_junk c _ _) $$ Hz0
  ihave Hz1 := (own_junk c _ _) $$ Hz1
  ihave Hz2 := (own_junk c _ _) $$ Hz2
  ihave Hqs := (own_junk c _ _) $$ Hqs
  ihave Hos := (own_junk c _ _) $$ Hos
  ihave Hfin : finish (F := F) c $$ [HO Hbar Hd4 Hd5 Hd60 Hd61 Hd62 Hd90 Hd91 Hd92 Hd120 Hd121 Hd122 Hd150 Hd151 Hd152 Hd180 Hd181 Hd182 Hd210 Hd211 Hd212]
  · unfold finish finish0
    rw [list20 (fun k => done (F := F) c k)]
    isplitl [HO]; · iexact HO
    isplitl [Hbar]; · iexact Hbar
    isplitl [Hd4]; · iexact Hd4
    isplitl [Hd5]; · iexact Hd5
    isplitl [Hd60]; · iexact Hd60
    isplitl [Hd61]; · iexact Hd61
    isplitl [Hd62]; · iexact Hd62
    isplitl [Hd90]; · iexact Hd90
    isplitl [Hd91]; · iexact Hd91
    isplitl [Hd92]; · iexact Hd92
    isplitl [Hd120]; · iexact Hd120
    isplitl [Hd121]; · iexact Hd121
    isplitl [Hd122]; · iexact Hd122
    isplitl [Hd150]; · iexact Hd150
    isplitl [Hd151]; · iexact Hd151
    isplitl [Hd152]; · iexact Hd152
    isplitl [Hd180]; · iexact Hd180
    isplitl [Hd181]; · iexact Hd181
    isplitl [Hd182]; · iexact Hd182
    isplitl [Hd210]; · iexact Hd210
    isplitl [Hd211]; · iexact Hd211
    iexact Hd212
  ihave Hsl : iprop(hbm c (wqM c) (v.wq c) ∗ hbm c (woM c) (v.wo c)) $$ [Hwq Hwo]
  · isplitl [Hwq]; · iexact Hwq
    iexact Hwo
  ihave Hslots : iprop(junk (F := F) c (slotM 0) ∗ junk (F := F) c (slotM 1) ∗ junk (F := F) c (slotM 2) ∗ junk (F := F) c (slotM 3) ∗ junk (F := F) c (slotM 4) ∗ junk (F := F) c (slotM 5)) $$ [Hs0 Hs1 Hs2 Hz0 Hz1 Hz2]
  · isplitl [Hs0]; · iexact Hs0
    isplitl [Hs1]; · iexact Hs1
    isplitl [Hs2]; · iexact Hs2
    isplitl [Hz0]; · iexact Hz0
    isplitl [Hz1]; · iexact Hz1
    iexact Hz2
  ihave HQ := HQ $$ Hfin Hx Hk Hv Hsl Hacc Hslots Hqs Hos
  iapply (runs_ret c)
  iexact HQ

/-- The body's run on device `c`: from the staged inputs `x`, `k`, `w`, the weight slices in main memory and the schedule's start, it
    leaves the finished sums in the output buffer and everything else as it was. -/
theorem body_runs (x : Vec F S2x128x512 .f32) (k w : Vec F S2x128x4x64 .f32)
    (hT : v.T c = tval x ((wqM c).view.read (Elt F) (v.wq c)) k w ((woM c).view.read (Elt F) (v.wo c))) {Q : PUnit → sProp 𝕄} :
    env v K ⊢ iprop(start (F := F) c -∗ own c xM fullShare x -∗ own c kM fullShare k -∗ own c vM fullShare w -∗ slices v c -∗ scratch (F := F) c
      -∗ junk (F := F) c oM
      -∗ (finish (F := F) c -∗ own c xM fullShare x -∗ own c kM fullShare k -∗ own c vM fullShare w -∗ slices v c -∗ scratch (F := F) c
          -∗ own c oM fullShare (k0_pay1 (fin v c)) -∗ Q ⟨⟩)
      -∗ runs c (cc0_body (F := F) (Memref.whole cc0_stg0_0) (Memref.isWhole_whole _) (Memref.whole main_v1) (Memref.isWhole_whole _) (Memref.whole cc0_stg1_0) (Memref.isWhole_whole _) (Memref.whole cc0_stg2_0) (Memref.isWhole_whole _) (Memref.whole main_v2) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11) Q) := by
  iintro #He Hst Hx Hk Hv Hsl Hsc Ho HQ
  rw [cc0_body_eq_skeleton]
  unfold cc0_body_skel
  simp only [Prog.lift, Prog.bind_op, Prog.bind_ret, Prog.pure_eq_ret]
  iapply (runs_bind c)
  iapply (part15_runs v K c x k w hT) $$ He Hst Hx Hk Hv Hsl Hsc
  iintro Hfin Hx Hk Hv Hsl Hacc Hslots Hqs Hos
  iapply (load_full c accM fullShare _) $$ Hacc
  iintro Hacc
  iapply (load_junk c oM) $$ Ho
  iintro Ho %X
  iapply (store_full c oM) $$ Ho
  iintro Ho
  ihave Hacc := (own_junk c _ _) $$ Hacc
  ihave Hsc : scratch (F := F) c $$ [Hacc Hslots Hqs Hos]
  · unfold scratch
    isplitl [Hacc]; · iexact Hacc
    isplitl [Hslots]; · iexact Hslots
    isplitl [Hqs]; · iexact Hqs
    iexact Hos
  ihave HQ := HQ $$ Hfin Hx Hk Hv Hsl Hsc Ho
  iapply (runs_ret c)
  iexact HQ

end Cert.KernelIdeal.Cross

end
-- ==== Proof.Scratch.lean ====
/-
  The scratch buffers and the weight arrays as the pipeline's boundary hands them over: a landing buffer is its three slots,
  and a weight array is the device's slice of it and the rest.
-/
module

public import proofs.«01_k».proof.Proof.Body

@[expose] public section

noncomputable section

namespace Cert.KernelIdeal.Cross

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (c : Dev nD)

/-- Slot `o` of a landing buffer. -/
abbrev slotOf (m : Memref sig .tc .vmem S3x64x512 .f32) (o : Fin 3) : Memref sig .tc .vmem S64x512 .f32 :=
  (m.slice (slotRect o) (fun _ => rfl)).squeeze S64x512 squeezes_S1x64x512_S64x512

/-- Slot `o` is plane `o`. -/
theorem mem_slot (o : Fin 3) (i : S3x64x512.Idx) : i ∈ (slotRect o).set ↔ (i 0).val = o.val := by
  have h0 : (i 0).val < 3 := (i 0).isLt
  have h1 : (i 1).val < 64 := (i 1).isLt
  have h2 : (i 2).val < 512 := (i 2).isLt
  rw [Rect.mem_set_unit]
  constructor
  · intro h
    have := h 0
    change o.val ≤ (i 0).val ∧ (i 0).val < o.val + 1 at this
    omega
  · intro h a
    match a with
    | ⟨0, _⟩ => show o.val ≤ (i 0).val ∧ (i 0).val < o.val + 1; omega
    | ⟨1, _⟩ => show 0 ≤ (i 1).val ∧ (i 1).val < 0 + 64; omega
    | ⟨2, _⟩ => show 0 ≤ (i 2).val ∧ (i 2).val < 0 + 512; omega

theorem slot_set (m : Memref sig .tc .vmem S3x64x512 .f32) (o : Fin 3) :
    (slotOf m o).view.set = (slotRect o).set.map m.view.emb := by
  rw [Memref.set_view_squeeze]
  exact View.set_slice m.view (slotRect o)

theorem slots_disjoint (m : Memref sig .tc .vmem S3x64x512 .f32) : ∀ o ∈ (Finset.univ : Finset (Fin 3)), ∀ o' ∈ (Finset.univ : Finset (Fin 3)),
    o ≠ o' → Disjoint ((slotOf m o).view.set) ((slotOf m o').view.set) := by
  intro o _ o' _ hne
  rw [slot_set, slot_set, Finset.disjoint_map, Finset.disjoint_left]
  intro i hi hi'
  exact hne (Fin.ext (((mem_slot o i).mp hi).symm.trans ((mem_slot o' i).mp hi')))

theorem slots_cover (m : Memref sig .tc .vmem S3x64x512 .f32) :
    m.view.set = Finset.univ.biUnion fun o : Fin 3 => (slotOf m o).view.set := by
  ext i
  simp only [Finset.mem_biUnion, Finset.mem_univ, true_and]
  constructor
  · intro hi
    obtain ⟨j, -, rfl⟩ := Finset.mem_map.mp hi
    have h0 : (j 0).val < 3 := (j 0).isLt
    exact ⟨⟨(j 0).val, h0⟩, by rw [slot_set]; exact Finset.mem_map_of_mem _ ((mem_slot _ j).mpr rfl)⟩
  · rintro ⟨o, ho⟩
    rw [slot_set] at ho
    obtain ⟨j, -, rfl⟩ := Finset.mem_map.mp ho
    exact Finset.mem_map_of_mem _ (Finset.mem_univ j)

/-- A landing buffer is its three slots. -/
theorem slab_split (m : Memref sig .tc .vmem S3x64x512 .f32) :
    junk (F := F) c m ⊢ bigSep Finset.univ fun o : Fin 3 => junk (F := F) c (slotOf m o) := by
  iintro ⟨%f, H⟩
  have h := pointsTo_biUnion (ℓ := m.view.loc (c : Thread nD τ)) (q := fullShare) (f := f) (Val := Elt F) (Ix := Unit) (Name := ℕ) (U := UU) (Lvl := ℕ)
    Finset.univ (fun o : Fin 3 => (slotOf m o).view.set) (slots_disjoint m)
  rw [← slots_cover] at h
  ihave H := (Entails.of_eq h) $$ H
  have hm (o : Fin 3) : (m.view.loc (c : Thread nD τ) ↦[(slotOf m o).view.set]{fullShare} f : sProp 𝕄) ⊢ junk (F := F) c (slotOf m o) := by
    iintro H
    iexists f
    iexact H
  have hb : (bigSep Finset.univ fun o : Fin 3 => (m.view.loc (c : Thread nD τ) ↦[(slotOf m o).view.set]{fullShare} f : sProp 𝕄))
      ⊢ bigSep Finset.univ fun o : Fin 3 => junk (F := F) c (slotOf m o) := bigSep_mono fun o _ => hm o
  iapply hb
  iexact H

/-- The three slots are the landing buffer. -/
theorem slab_join (m : Memref sig .tc .vmem S3x64x512 .f32) :
    (bigSep Finset.univ fun o : Fin 3 => junk (F := F) c (slotOf m o)) ⊢ junk (F := F) c m := by
  refine (bigSep_exists_pi Finset.univ (fun (o : Fin 3) (f : Buf (Elt F) (m.view.loc (c : Thread nD τ))) =>
    (m.view.loc (c : Thread nD τ) ↦[(slotOf m o).view.set]{fullShare} f : sProp 𝕄))).trans ?_
  iintro ⟨%fs, H⟩
  ihave H := (pointsTo_biUnion_join Finset.univ (fun o : Fin 3 => (slotOf m o).view.set) fs (fs 0) (slots_disjoint m)) $$ H
  icases H with ⟨%g, -, H⟩
  rw [← slots_cover]
  iexists g
  iexact H

/-- The slots by partner: three of the one landing buffer, three of the other. -/
theorem slots_six : bigSep Finset.univ (fun j : Fin 6 => junk (F := F) c (slotM j))
    = iprop((bigSep Finset.univ fun o : Fin 3 => junk (F := F) c (slotOf pslabM o)) ∗ bigSep Finset.univ fun o : Fin 3 => junk (F := F) c (slotOf zslabM o)) := by
  rw [list6, list3, list3]
  have h (A B C D E G : sProp 𝕄) : iprop(A ∗ B ∗ C ∗ D ∗ E ∗ G) = iprop((A ∗ B ∗ C) ∗ D ∗ E ∗ G) := by
    have h1 : iprop(A ∗ B ∗ C ∗ D ∗ E ∗ G) ⊢ iprop((A ∗ B ∗ C) ∗ D ∗ E ∗ G) := by
      iintro ⟨H0, H1, H2, H3⟩
      isplitl [H0 H1 H2]
      · isplitl [H0]; · iexact H0
        isplitl [H1] <;> iassumption
      iexact H3
    have h2 : iprop((A ∗ B ∗ C) ∗ D ∗ E ∗ G) ⊢ iprop(A ∗ B ∗ C ∗ D ∗ E ∗ G) := by
      iintro ⟨⟨H0, H1, H2⟩, H3⟩
      isplitl [H0]; · iexact H0
      isplitl [H1]; · iexact H1
      isplitl [H2] <;> iassumption
    exact BI.equiv_iff.mp ⟨h1, h2⟩
  exact h _ _ _ _ _ _

/-- A whole buffer at contents nobody has chosen. -/
theorem junk_whole (b : Ref sig .tc) : junk (F := F) c (Memref.whole b)
    = iprop(∃ f : Buf (Elt F) ((c : Thread nD τ).loc b), ((c : Thread nD τ).loc b) ↦{fullShare} f) := by
  unfold junk
  rw [View.set_whole]

/-- The boundary's scratch buffers are the body's. -/
theorem rest_scratch : (Pipeline.scopedRest (Ix := Unit) (Name := ℕ) (U := UU) (Lvl := ℕ) (Val := Elt F) spec0 c : sProp 𝕄) ⊢ scratch (F := F) c := by
  rw [scopedRest0_eq]
  unfold scratch
  rw [slots_six, ← junk_whole, ← junk_whole, ← junk_whole, ← junk_whole, ← junk_whole]
  iintro ⟨H0, H1, H2, H3, H4⟩
  isplitl [H0]; · iexact H0
  isplitl [H1 H2]
  · isplitl [H1]
    · iapply (slab_split c pslabM); iexact H1
    · iapply (slab_split c zslabM); iexact H2
  isplitl [H3] <;> iassumption

theorem scratch_rest : scratch (F := F) c ⊢ (Pipeline.scopedRest (Ix := Unit) (Name := ℕ) (U := UU) (Lvl := ℕ) (Val := Elt F) spec0 c : sProp 𝕄) := by
  rw [scopedRest0_eq]
  unfold scratch
  rw [slots_six, ← junk_whole, ← junk_whole, ← junk_whole, ← junk_whole, ← junk_whole]
  iintro ⟨H0, ⟨H1, H2⟩, H3, H4⟩
  isplitl [H0]; · iexact H0
  isplitl [H1]
  · iapply (slab_join c pslabM); iexact H1
  isplitl [H2]
  · iapply (slab_join c zslabM); iexact H2
  isplitl [H3] <;> iassumption

/-- The weight arrays, whole, at the run's values. -/
def weights (v : Vals F) : sProp 𝕄 :=
  iprop((((c : Thread nD τ).loc main_v1) ↦{fullShare} v.wq c) ∗ (((c : Thread nD τ).loc main_v2) ↦{fullShare} v.wo c))
/-- What of the weight arrays is outside the device's slices. -/
def outside (v : Vals F) : sProp 𝕄 :=
  iprop((((c : Thread nD τ).loc main_v1) ↦[Finset.univ \ (wqM c).view.set]{fullShare} v.wq c)
    ∗ (((c : Thread nD τ).loc main_v2) ↦[Finset.univ \ (woM c).view.set]{fullShare} v.wo c))

/-- The weight arrays are the device's slices and the rest. -/
theorem weights_slices (v : Vals F) : weights c v ⊣⊢ iprop(slices v c ∗ outside c v) := by
  have h1 := pointsTo_split_subset (ℓ := (c : Thread nD τ).loc main_v1) (q := fullShare) (f := v.wq c) (Val := Elt F) (Ix := Unit) (Name := ℕ) (U := UU) (Lvl := ℕ)
    (Finset.subset_univ (wqM c).view.set)
  have h2 := pointsTo_split_subset (ℓ := (c : Thread nD τ).loc main_v2) (q := fullShare) (f := v.wo c) (Val := Elt F) (Ix := Unit) (Name := ℕ) (U := UU) (Lvl := ℕ)
    (Finset.subset_univ (woM c).view.set)
  unfold weights slices outside
  constructor
  · iintro ⟨H1, H2⟩
    ihave H1 := h1.1 $$ H1
    ihave H2 := h2.1 $$ H2
    icases H1 with ⟨H1, H1'⟩
    icases H2 with ⟨H2, H2'⟩
    isplitl [H1 H2]
    · isplitl [H1]; · iexact H1
      iexact H2
    isplitl [H1']; · iexact H1'
    iexact H2'
  · iintro ⟨⟨H1, H2⟩, H1', H2'⟩
    isplitl [H1 H1']
    · iapply h1.2
      isplitl [H1]; · iexact H1
      iexact H1'
    · iapply h2.2
      isplitl [H2]; · iexact H2
      iexact H2'

end Cert.KernelIdeal.Cross

end
-- ==== Proof.Region.lean ====
/-
  The kernel as a region of the program: what it enters with, what it leaves, and the body's run as the pipeline asks for it.
-/
module

public import proofs.«01_k».proof.Proof.Scratch

@[expose] public section

noncomputable section

namespace Cert.KernelIdeal.Cross

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ)

/-- The values of the run: the weights as the host operations leave them, and each device's product. -/
def vals : Vals F where
  wq c := V m c main_v1
  wo c := V m c main_v2
  T c := tval (iblk m c 0 t0_0) ((wqM c).view.read (Elt F) (V m c main_v1)) (iblk m c 1 t0_0) (iblk m c 2 t0_0)
    ((woM c).view.read (Elt F) (V m c main_v2))

/-- What device `c` writes as its result. -/
def result (c : Dev nD) : Vec F S2x128x512 .f32 := k0_pay1 (fin (vals m) c)

/-- The boundary's part of the scratch, as the pipeline names it. -/
abbrev rest (c : Dev nD) : sProp 𝕄 := Pipeline.scopedRest (Ix := Unit) (Name := ℕ) (U := UU) (Lvl := ℕ) (Val := Elt F) spec0 c

/-- What the body enters with beside its windows. -/
def entry (c : Dev nD) : sProp 𝕄 :=
  iprop((∃ K, env (vals m) K) ∗ start0 (F := F) c ∗ weights c (vals m) ∗ rest (F := F) c ∗ ∃ r, prngReg c r)
/-- What it leaves beside them. -/
def exit (c : Dev nD) : sProp 𝕄 :=
  iprop(finish0 (F := F) c ∗ weights c (vals m) ∗ rest (F := F) c ∗ ∃ r, prngReg c r)

/-- The proof data of the one pipeline: inputs stay, the output is the result, all debts are paid within the one point. -/
def dat (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => result m c
  Φ t := match t with
    | ⟨0, _⟩ => entry m c
    | ⟨_ + 1, _⟩ => exit m c
  q _ := fullShare
  owed t := match t with
    | ⟨0, _⟩ => O₀ c
    | ⟨_ + 1, _⟩ => 0

/-- What each input's staging buffer holds when the body starts: its block. -/
theorem before_x (c : Dev nD) (t : Fin cfg0.N) (d) : (dat m c).before 0 t d = iblk m c 0 t :=
  ((dat m c).before_in_eq_fetched 0 rfl (fun _ => rfl) (fun _ _ _ => rfl) (fun _ => rfl) t d).trans rfl
theorem before_k (c : Dev nD) (t : Fin cfg0.N) (d) : (dat m c).before 1 t d = iblk m c 1 t :=
  ((dat m c).before_in_eq_fetched 1 rfl (fun _ => rfl) (fun _ _ _ => rfl) (fun _ => rfl) t d).trans rfl
theorem before_v (c : Dev nD) (t : Fin cfg0.N) (d) : (dat m c).before 2 t d = iblk m c 2 t :=
  ((dat m c).before_in_eq_fetched 2 rfl (fun _ => rfl) (fun _ _ _ => rfl) (fun _ => rfl) t d).trans rfl

/-- Holding a whole buffer, two ways of saying it. -/
theorem own_whole (c : Dev nD) (b : Ref sig .tc) (q : PosShare TreeShare) (X : b.ty.Contents (Elt F)) :
    (own c (Memref.whole b) q X : sProp 𝕄) = (((c : Thread nD τ).loc b) ↦{q} X) := by
  unfold own
  rw [View.set_whole, show (Memref.whole b).view.rep X = X from View.read_rep (Memref.whole b).view X]

theorem owed_elim (c : Dev nD) : ((dat m c).owesAt () t0_0.castSucc : sProp 𝕄) ⊢ owed (F := F) c 0 := by
  unfold Dat.owesAt Pipeline.owesWithin owed
  rw [show (dat m c).owed t0_0.castSucc = Orem c 0 from rfl]
  iintro ⟨%W, -, HO⟩
  iexists W
  iexact HO
theorem owed_intro (c : Dev nD) : owed (F := F) c 15 ⊢ ((dat m c).owesAt () t0_0.succ : sProp 𝕄) := by
  unfold Dat.owesAt Pipeline.owesWithin Dat.bound owed
  rw [show (dat m c).owed t0_0.succ = Orem c 15 from (Orem_end c).symm]
  iintro ⟨%W, HO⟩
  iexists W
  isplitr
  · ipureintro; exact fun _ _ => Or.inl trivial
  iexact HO

set_option maxRecDepth 4000 in
/-- The body's run, as the pipeline asks for it. -/
theorem body_obligation (c : Dev nD) : BodyObligation (dat m c) (defs₀ (F := F)) 𝒱₀ () Set.univ := fun t => by
  obtain rfl := fin_N0 t
  rw [bigSep_W0, bigSep_W0]
  simp only [owns_whole_eq]
  rw [show (dat m c).Φ t0_0.castSucc = entry m c from rfl, show (dat m c).Φ t0_0.succ = exit m c from rfl]
  unfold entry exit
  iintro ⟨⟨⟨%K, #He⟩, Hst, Hw, Hsc, Hp⟩, HO, ⟨%d0, %f0, %hf0, H0⟩, ⟨%d1, %f1, %hf1, H1⟩, ⟨%d2, %f2, %hf2, H2⟩, ⟨%d3, %f3, %hf3, H3⟩⟩
  rw [before_x] at hf0
  rw [before_k] at hf1
  rw [before_v] at hf2
  subst hf0 hf1 hf2
  ihave HO := (owed_elim m c) $$ HO
  ihave Hsc := (rest_scratch c) $$ Hsc
  ihave Hw := (weights_slices c (vals m)).1 $$ Hw
  icases Hw with ⟨Hsl, Hout⟩
  ihave Hst : start (F := F) c $$ [HO Hst]
  · unfold start
    isplitl [HO] <;> iassumption
  ihave H0 := (Entails.of_eq (own_whole c cc0_stg0_0 fullShare _).symm) $$ H0
  ihave H1 := (Entails.of_eq (own_whole c cc0_stg1_0 fullShare _).symm) $$ H1
  ihave H2 := (Entails.of_eq (own_whole c cc0_stg2_0 fullShare _).symm) $$ H2
  ihave H3 := (Entails.of_eq (own_whole c cc0_stg3_0 fullShare _).symm) $$ H3
  ihave H3 := (own_junk c _ _) $$ H3
  iapply (body_runs (vals m) K c (iblk m c 0 t0_0) (iblk m c 1 t0_0) (iblk m c 2 t0_0) rfl) $$ He Hst H0 H1 H2 Hsl Hsc H3
  iintro Hf H0 H1 H2 Hsl Hsc H3
  unfold finish
  icases Hf with ⟨HO, Hf⟩
  ihave HO := (owed_intro m c) $$ HO
  ihave Hsc := (scratch_rest c) $$ Hsc
  ihave H0 := (Entails.of_eq (own_whole c cc0_stg0_0 fullShare _)) $$ H0
  ihave H1 := (Entails.of_eq (own_whole c cc0_stg1_0 fullShare _)) $$ H1
  ihave H2 := (Entails.of_eq (own_whole c cc0_stg2_0 fullShare _)) $$ H2
  ihave H3 := (Entails.of_eq (own_whole c cc0_stg3_0 fullShare _)) $$ H3
  isplitl [Hf Hsl Hout Hsc Hp]
  · isplitl [Hf]; · iexact Hf
    isplitl [Hsl Hout]
    · iapply (weights_slices c (vals m)).2
      isplitl [Hsl] <;> iassumption
    isplitl [Hsc] <;> iassumption
  isplitl [HO]; · iexact HO
  isplitl [H0]
  · iexists _; isplitr; swap; (· iexact H0); ipureintro; rfl
  isplitl [H1]
  · iexists _; isplitr; swap; (· iexact H1); ipureintro; rfl
  isplitl [H2]
  · iexists _; isplitr; swap; (· iexact H2); ipureintro; rfl
  iexists _; isplitr; swap; (· iexact H3); ipureintro; rfl

end Cert.KernelIdeal.Cross

end
-- ==== Proof.Deal.lean ====
/-
  What the launch hands out: every device's tickets, counters and credits.
-/
module

public import proofs.«01_k».proof.Proof.Region
public import Idealize.ShloMosaic.Harness.Basic

@[expose] public section

noncomputable section

namespace Cert.KernelIdeal.Cross

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## The launch credits -/

/-- What all devices together owe one semaphore of device `c`: step `i` of exactly one device goes there, when it raises that one. -/
theorem owed_sum (c : Dev nD) (s : SemLoc sig) :
    (∑ d : Dev nD, O₀ d (cell c s) ()) = ∑ i : Fin 15, if s = obSem i then obAmt i else 0 := by
  have h1 (d : Dev nD) : O₀ d (cell c s) () = ∑ i : Fin 15, if d = peer (obTo i) c then (if s = obSem i then obAmt i else 0) else 0 := by
    unfold O₀ Orem
    rw [Finset.sum_apply, Finsupp.finset_sum_apply, Finset.filter_true_of_mem (fun i _ => Nat.zero_le _)]
    refine Finset.sum_congr rfl fun i _ => ?_
    unfold ob
    rw [tallyAt_apply]
    by_cases hd : d = peer (obTo i) c
    · subst hd
      rw [peer_peer, if_pos rfl]
      by_cases hs : s = obSem i
      · rw [if_pos hs, if_pos ⟨by rw [hs], rfl⟩]
      · rw [if_neg hs, if_neg fun h => hs (congrArg Prod.snd h.1)]
    · rw [if_neg hd, if_neg fun h => hd ?_]
      have h2 : c = peer (obTo i) d := congrArg (fun g : GSem nD τ sig => g.1.1) h.1
      rw [h2, peer_peer]
  rw [Finset.sum_congr rfl fun d _ => h1 d, Finset.sum_comm]
  refine Finset.sum_congr rfl fun i _ => ?_
  rw [Finset.sum_ite_eq' Finset.univ (peer (obTo i) c) fun _ => (if s = obSem i then obAmt i else 0), if_pos (Finset.mem_univ _)]

/-- A device's launch credit on one of its semaphores, given what all devices owe it. -/
theorem launch_cell (c : Dev nD) (s : SemLoc sig) (n : ℕ) (h : (∑ i : Fin 15, if s = obSem i then obAmt i else 0) = n) :
    tallyOn (cell c s) (launchCredit (Pipeline.owing O₀) 0 (cell c s)) = (tallyAt (cell c s) () n : CellTallies nD τ sig Unit) := by
  unfold tallyAt
  refine congrArg _ (Finsupp.ext fun u => ?_)
  cases u
  rw [Pipeline.launchCredit_owing, Finsupp.single_eq_same, owed_sum, h]

/-- Six signals reach the barrier. -/
theorem sum_bar : (∑ i : Fin 15, if SemLoc.reg barrier0 = obSem i then obAmt i else 0) = 6 := by
  rw [Finset.sum_congr rfl (g := fun i : Fin 15 => if i.val < 6 then 1 else 0) fun i _ => ?_]
  · decide
  unfold obSem obAmt
  split
  · exact if_pos rfl
  · exact if_neg (fun h => by cases h)

/-- The copies among the steps, counted on pairwise different semaphores. -/
abbrev copyNo (i : Fin 9) : Fin 24 := obNo ⟨6 + i.val, by omega⟩
theorem copyNo_inj : ∀ i j : Fin 9, copyNo i = copyNo j → i = j := by decide

/-- One copy reaches each semaphore that counts arrivals. -/
theorem sum_copy (i : Fin 9) : (∑ k : Fin 15, if (SemLoc.dma (dmaNo (copyNo i)) : SemLoc sig) = obSem k then obAmt k else 0) = NB := by
  rw [Finset.sum_eq_single (⟨6 + i.val, by omega⟩ : Fin 15)]
  · unfold obSem obAmt
    have h6 : ¬ (6 + i.val < 6) := by omega
    rw [if_neg h6, if_neg h6, if_pos rfl]
  · intro k _ hk
    refine if_neg fun h => hk ?_
    unfold obSem at h
    split at h
    · cases h
    · next h6 =>
      have h2 : copyNo i = obNo k := by injection h
      have hk15 : k.val < 15 := k.isLt
      have h3 := copyNo_inj i ⟨k.val - 6, by omega⟩ (h2.trans (congrArg obNo (Fin.ext (by simp only; omega))))
      exact Fin.ext (by have := congrArg Fin.val h3; simp only at this ⊢; omega)
  · exact fun h => absurd (Finset.mem_univ _) h

theorem copySem_inj : Function.Injective (fun i : Option (Fin 9) => (match i with | none => SemLoc.reg barrier0 | some i => .dma (dmaNo (copyNo i)) : SemLoc sig)) := by
  rintro (_ | i) (_ | j) h
  · rfl
  · cases h
  · cases h
  · exact congrArg some (copyNo_inj i j (by injection h))

theorem creditOf_copy (i : Fin 9) : creditOf (copyNo i) = NB := by
  unfold creditOf
  rw [if_neg (by revert i; decide), if_neg (by revert i; decide)]

/-- The launch credits of a device: six units of its barrier, and a block's worth on each of its nine arrival semaphores. -/
theorem credits (c : Dev nD) : (Pipeline.launchCred O₀ c : sProp 𝕄) ⊢ iprop(cred (tallyAt (barCell c) () 6)
    ∗ bigSep Finset.univ (fun o : Fin 3 => crd (F := F) c (at3 9 o)) ∗ bigSep Finset.univ (fun o : Fin 3 => crd (F := F) c (at3 15 o))
    ∗ bigSep Finset.univ (fun o : Fin 3 => crd (F := F) c (at3 21 o))) := by
  unfold Pipeline.launchCred
  refine (bigSep_subset (Finset.subset_univ (Finset.univ.map ⟨_, copySem_inj⟩))).trans ?_
  rw [bigSep_map, bigSep_univ_eq_bigSepL [none, some 0, some 1, some 2, some 3, some 4, some 5, some 6, some 7, some 8] (by decide) (by decide),
    list3, list3, list3]
  have hb : tallyOn (barCell c) (launchCredit (Pipeline.owing O₀) 0 (barCell c)) = (tallyAt (barCell c) () 6 : CellTallies nD τ sig Unit) :=
    launch_cell c (.reg barrier0) 6 sum_bar
  have hk (i : Fin 9) : tallyOn (dCell c (copyNo i)) (launchCredit (Pipeline.owing O₀) 0 (dCell c (copyNo i)))
      = (tallyAt (dCell c (copyNo i)) () (creditOf (copyNo i)) : CellTallies nD τ sig Unit) :=
    (launch_cell c (.dma (dmaNo (copyNo i))) NB (sum_copy i)).trans (by rw [creditOf_copy])
  show iprop(cred (tallyOn (barCell c) (launchCredit (Pipeline.owing O₀) 0 (barCell c)))
    ∗ cred (tallyOn (dCell c (copyNo 0)) (launchCredit (Pipeline.owing O₀) 0 (dCell c (copyNo 0))))
    ∗ cred (tallyOn (dCell c (copyNo 1)) (launchCredit (Pipeline.owing O₀) 0 (dCell c (copyNo 1))))
    ∗ cred (tallyOn (dCell c (copyNo 2)) (launchCredit (Pipeline.owing O₀) 0 (dCell c (copyNo 2))))
    ∗ cred (tallyOn (dCell c (copyNo 3)) (launchCredit (Pipeline.owing O₀) 0 (dCell c (copyNo 3))))
    ∗ cred (tallyOn (dCell c (copyNo 4)) (launchCredit (Pipeline.owing O₀) 0 (dCell c (copyNo 4))))
    ∗ cred (tallyOn (dCell c (copyNo 5)) (launchCredit (Pipeline.owing O₀) 0 (dCell c (copyNo 5))))
    ∗ cred (tallyOn (dCell c (copyNo 6)) (launchCredit (Pipeline.owing O₀) 0 (dCell c (copyNo 6))))
    ∗ cred (tallyOn (dCell c (copyNo 7)) (launchCredit (Pipeline.owing O₀) 0 (dCell c (copyNo 7))))
    ∗ cred (tallyOn (dCell c (copyNo 8)) (launchCredit (Pipeline.owing O₀) 0 (dCell c (copyNo 8))))) ⊢ _
  rw [hb, hk, hk, hk, hk, hk, hk, hk, hk, hk]
  iintro ⟨Hb, H0, H1, H2, H3, H4, H5, H6, H7, H8⟩
  isplitl [Hb]; · iexact Hb
  isplitl [H0 H1 H2]
  · isplitl [H0]; · iexact H0
    isplitl [H1]; · iexact H1
    iexact H2
  isplitl [H3 H4 H5]
  · isplitl [H3]; · iexact H3
    isplitl [H4]; · iexact H4
    iexact H5
  isplitl [H6]; · iexact H6
  isplitl [H7]; · iexact H7
  iexact H8

/-! ## The tickets -/

/-- One ticket per barrier and partner, one per own semaphore. -/
def barToks : Finset (GSem nD τ sig × ℕ × Fin 6) :=
  Finset.univ.map ⟨fun p : Dev nD × Fin 6 => (barCell p.1, 0, p.2), fun a b h =>
    Prod.ext (congrArg (fun t : GSem nD τ sig × ℕ × Fin 6 => t.1.1.1) h) (congrArg (fun t : GSem nD τ sig × ℕ × Fin 6 => t.2.2) h)⟩
def ownToks : Finset (GSem nD τ sig × ℕ × Fin 6) :=
  Finset.univ.map ⟨fun p : Dev nD × Fin 20 => (cell p.1 (osem p.2), 0, 0), fun _ _ h => ownCell_inj (congrArg (fun t : GSem nD τ sig × ℕ × Fin 6 => t.1) h)⟩

theorem toks_disjoint : Disjoint barToks ownToks := by
  rw [Finset.disjoint_left]
  intro t h1 h2
  obtain ⟨p, -, rfl⟩ := Finset.mem_map.mp h1
  obtain ⟨q, -, h⟩ := Finset.mem_map.mp h2
  have h3 : (osem q.2 : SemLoc sig) = .reg barrier0 := congrArg (fun t : GSem nD τ sig × ℕ × Fin 6 => t.1.2) h
  cases h3

theorem cells_disjoint : Disjoint bars owns := by
  rw [Finset.disjoint_left]
  intro g h1 h2
  obtain ⟨p, -, rfl⟩ := Finset.mem_map.mp h1
  obtain ⟨q, -, h⟩ := Finset.mem_map.mp h2
  have h3 : (osem q.2 : SemLoc sig) = .reg barrier0 := congrArg (fun t : GSem nD τ sig => t.2) h
  cases h3

/-- Each partner's barrier ticket, as a bijection of the pairs. -/
def barTurn : Dev nD × Fin 6 ≃ Dev nD × Fin 6 :=
  ⟨fun p => (peer p.2 p.1, p.2), fun p => (peer p.2 p.1, p.2), fun p => Prod.ext (peer_peer p.2 p.1) rfl, fun p => Prod.ext (peer_peer p.2 p.1) rfl⟩
/-- The device whose semaphore a transfer is counted on, as a bijection of the pairs. -/
def ownTurn : Dev nD × Fin 20 ≃ Dev nD × Fin 20 :=
  ⟨fun p => (home (at20 p.2) p.1, p.2), fun p => (home (at20 p.2) p.1, p.2), fun p => Prod.ext (home_home (at20 p.2) p.1) rfl,
    fun p => Prod.ext (home_home (at20 p.2) p.1) rfl⟩

/-- Each barrier ticket goes to the partner it names, each transfer's ticket to the device that starts the transfer. -/
theorem toks_dealt : bigSep (barToks ∪ ownToks) (fun t => (dutyTok ER t.1 t.2.1 t.2.2 : sProp 𝕄))
    = iprop((bigSep Finset.univ fun c : Dev nD => bigSep Finset.univ fun j : Fin 6 => dutyTok ER (barCell (peer j c)) 0 j)
      ∗ bigSep Finset.univ fun c : Dev nD => bigSep Finset.univ fun i : Fin 20 => dutyTok ER (dCell (home (at20 i) c) (at20 i)) 0 0) := by
  refine (bigSep_union toks_disjoint).trans ?_
  show iprop(bigSep barToks (fun t => (dutyTok ER t.1 t.2.1 t.2.2 : sProp 𝕄)) ∗ bigSep ownToks (fun t => (dutyTok ER t.1 t.2.1 t.2.2 : sProp 𝕄))) = _
  unfold barToks ownToks
  rw [bigSep_map, bigSep_map]
  congr 1
  · exact (bigSep_univ_equiv barTurn (fun p : Dev nD × Fin 6 => (dutyTok ER (barCell p.1) 0 p.2 : sProp 𝕄))).trans
      (bigSep_univ_prod fun p : Dev nD × Fin 6 => (dutyTok ER (barCell (peer p.2 p.1)) 0 p.2 : sProp 𝕄))
  · exact (bigSep_univ_equiv ownTurn (fun p : Dev nD × Fin 20 => (dutyTok ER (dCell p.1 (at20 p.2)) 0 0 : sProp 𝕄))).trans
      (bigSep_univ_prod fun p : Dev nD × Fin 20 => (dutyTok ER (dCell (home (at20 p.2) p.1) (at20 p.2)) 0 0 : sProp 𝕄))

/-! ## A device's share of the launch -/

variable (m : (ℓ : Loc nD τ sig) → Buf (Elt F) ℓ)

/-- What every device knows from the launch on. -/
def records (K : GSem nD τ sig → ℕ) : sProp 𝕄 :=
  iprop((bigSep (bars ∪ owns) fun g => cellInv ER (plan (vals m)) (K g) g) ∗ bigSep bars fun g => reached ER g 0)

instance records_persistent (K : GSem nD τ sig → ℕ) : BI.Persistent (records m K) := by unfold records; infer_instance

/-- What is its own: its barrier's position, the right to open each of its own semaphores, its tickets. -/
def share (c : Dev nD) : sProp 𝕄 := iprop(
  atPos ER (barCell c) 0 ∅ 0
  ∗ (bigSep Finset.univ fun i : Fin 20 => openTok ER (dCell c (at20 i)))
  ∗ (bigSep Finset.univ fun j : Fin 6 => dutyTok ER (barCell (peer j c)) 0 j)
  ∗ bigSep Finset.univ fun i : Fin 20 => dutyTok ER (dCell (home (at20 i) c) (at20 i)) 0 0)

/-- All of it, before the kernel runs. -/
def dealt (c : Dev nD) : sProp 𝕄 := iprop((∃ K, records m K) ∗ share (F := F) c ∗ Pipeline.launchCred O₀ c)

/-- Entering the kernel opens the device's own semaphores. -/
theorem opens (c : Dev nD) : iprop(dealt m c ∗ Pipeline.ownSems0 osem c ∗ levAts L lv)
    ⊢ (|={Set.univ}=> iprop((∃ K, env (vals m) K) ∗ start0 (F := F) c) : sProp 𝕄) := by
  have h1 (K : GSem nD τ sig → ℕ) (i : Fin 20) : iprop(records m K ∗ (openTok ER (dCell c (at20 i)) ∗ semVal (dCell c (at20 i)) 0))
      ⊢ (|={Set.univ}=> iprop(pos (F := F) c (at20 i) ∗ reached ER (dCell c (at20 i)) 0) : sProp 𝕄) := by
    have h0 : (bigSep (bars ∪ owns) fun g => cellInv ER (plan (vals m)) (K g) g) ⊢ (cellInv ER (plan (vals m)) (K (dCell c (at20 i))) (dCell c (at20 i)) : sProp 𝕄) :=
      bigSep_elim (Φ := fun g => cellInv ER (plan (vals m)) (K g) g) (Finset.mem_union_right bars (mem_owns c (at20 i) (Nat.le_add_right 4 _)))
    unfold records
    iintro ⟨⟨#HI, -⟩, Ho, Hs⟩
    iapply (Rounds.cell_open ER (plan (vals m)) (κ := K (dCell c (at20 i))) (g := dCell c (at20 i)) (Set.mem_univ _))
    isplitr
    · iapply h0
      iexact HI
    isplitl [Ho] <;> iassumption
  have h2 (K : GSem nD τ sig → ℕ) : iprop(records m K ∗ bigSep Finset.univ fun i : Fin 20 => iprop(openTok ER (dCell c (at20 i)) ∗ semVal (dCell c (at20 i)) 0))
      ⊢ (|={Set.univ}=> bigSep Finset.univ fun i : Fin 20 => iprop(pos (F := F) c (at20 i) ∗ reached ER (dCell c (at20 i)) 0) : sProp 𝕄) :=
    (bigSep_with_persistent fun i _ => h1 K i).trans (bigSep_fupd _ _)
  have h3 : (Pipeline.ownSems0 osem c : sProp 𝕄) = bigSep Finset.univ fun i : Fin 20 => semVal (dCell c (at20 i)) 0 := rfl
  rw [h3]
  unfold dealt share
  iintro ⟨⟨⟨%K, #HR⟩, ⟨Hb, Ho, Hj, Ht⟩, Hc⟩, Hs, #Hl⟩
  ihave Hos := (Smoke.bigSep_pair (Φ := fun i : Fin 20 => (openTok ER (dCell c (at20 i)) : sProp 𝕄)) (Ψ := fun i : Fin 20 => semVal (dCell c (at20 i)) 0)) $$ [Ho Hs]
  · isplitl [Ho] <;> iassumption
  imod (h2 K) $$ [Hos] with Hp
  · isplitr; · iexact HR
    iexact Hos
  ihave Hp := Smoke.bigSep_unpair $$ Hp
  icases Hp with ⟨Hp, Hr⟩
  ihave Hc := (credits c) $$ Hc
  icases Hc with ⟨Hc0, Hc9, Hc15, Hc21⟩
  imodintro
  isplitr
  · iexists K
    unfold env records
    icases HR with ⟨#H1, #H2⟩
    isplitr; · iexact H1
    isplitr; · iexact H2
    iexact Hl
  unfold start0
  isplitl [Hj]; · iexact Hj
  isplitl [Hc0]; · iexact Hc0
  isplitl [Hb]; · iexact Hb
  isplitl [Ht]; · iexact Ht
  isplitl [Hp]; · iexact Hp
  isplitl [Hr]; · iexact Hr
  isplitl [Hc9]; · iexact Hc9
  isplitl [Hc15]; · iexact Hc15
  iexact Hc21

end Cert.KernelIdeal.Cross

end
-- ==== Proof.Launch.lean ====
/-
  The launch: the host operations and the kernel region run on all sixteen devices, from any memory to the end.
-/
module

public import proofs.«01_k».proof.Proof.Deal
public import Idealize.ShloMosaic.Lib.Pipeline.RegionTalk
public import Idealize.ShloMosaic.Lib.Pipeline.ValueKit.Geometry

@[expose] public section

noncomputable section

namespace Cert.KernelIdeal.Cross

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

abbrev adm : (p : Fin 1) → (pcfgs (F := F) p).Adm := fun p => (cfgs p).toPCfg_adm

def pdats : (p : Fin 1) → (c : Dev nD) → Dat τ (Elt F) Unit ℕ UU ℕ (Pipeline.pin (pcfgs (F := F)) adm p) c
  | 0 => dat m

/-! ## The buffers -/

/-- A device's unscoped buffers: at the launch, after the host operations, and after the kernel. -/
abbrev V₀ (c : Dev nD) : Valuation τ sig (Elt F) := fun b => m (c, b)
abbrev W₁ (c : Dev nD) : Valuation τ sig (Elt F) := StableHlo.after hostOps0 (V₀ m c)
def W₂ (c : Dev nD) : Valuation τ sig (Elt F) := Function.update (W₁ m c) (Proc.devRef .tc main_v3) (result m c)

theorem W₂_out (c : Dev nD) : W₂ m c (Proc.devRef .tc main_v3) = result m c := Function.update_self ..
theorem W₂_ne (c : Dev nD) (b : Ref sig .tc) (hb : b ≠ main_v3) : W₂ m c (Proc.devRef .tc b) = V m c b :=
  Function.update_of_ne (StableHlo.devRef_ne_of_ne hb) ..

/-- The reshaped weights, and everything that is not a window's array. -/
abbrev refsK : Finset (DevRef τ sig) := {Proc.devRef .tc main_v1, Proc.devRef .tc main_v2}
abbrev refsA : Finset (DevRef τ sig) := Pipeline.arrRefs (τ := τ) spec0
abbrev refsR : Finset (DevRef τ sig) := Pipeline.ucRefs τ sig \ refsA

theorem held_weights (c : Dev nD) (W : Valuation τ sig (Elt F)) (h1 : W (Proc.devRef .tc main_v1) = V m c main_v1) (h2 : W (Proc.devRef .tc main_v2) = V m c main_v2) :
    (StableHlo.held (c : Thread nD τ) refsK W : sProp 𝕄) = weights c (vals m) := by
  unfold StableHlo.held weights
  rw [bigSep_eq_bigSepL_of_eq [Proc.devRef .tc main_v1, Proc.devRef .tc main_v2] (by decide) (by decide)]
  show iprop((((c : Thread nD τ).loc main_v1) ↦{fullShare} W (Proc.devRef .tc main_v1)) ∗ (((c : Thread nD τ).loc main_v2) ↦{fullShare} W (Proc.devRef .tc main_v2))) = _
  rw [h1, h2]
  rfl

theorem held_arrays (c : Dev nD) (W : Valuation τ sig (Elt F)) :
    (StableHlo.held (c : Thread nD τ) (Pipeline.ucRefs τ sig) W : sProp 𝕄)
      = iprop(StableHlo.held (c : Thread nD τ) refsA W ∗ StableHlo.held (c : Thread nD τ) refsR W) :=
  StableHlo.held_sub_split (c : Thread nD τ) (Pipeline.arrRefs_sub_ucRefs spec0 winFacts0.arr_unscoped) W

/-- The buffers that the claim speaks of, one by one. -/
theorem held_all (c : Dev nD) (W : Valuation τ sig (Elt F)) :
    (StableHlo.held (c : Thread nD τ) (Pipeline.ucRefs τ sig) W : sProp 𝕄)
      = iprop((((c : Thread nD τ).loc main_arg0) ↦{fullShare} W (Proc.devRef .tc main_arg0)) ∗ (((c : Thread nD τ).loc main_arg1) ↦{fullShare} W (Proc.devRef .tc main_arg1))
        ∗ (((c : Thread nD τ).loc main_arg2) ↦{fullShare} W (Proc.devRef .tc main_arg2)) ∗ (((c : Thread nD τ).loc main_arg3) ↦{fullShare} W (Proc.devRef .tc main_arg3))
        ∗ (((c : Thread nD τ).loc main_arg4) ↦{fullShare} W (Proc.devRef .tc main_arg4)) ∗ (((c : Thread nD τ).loc main_v1) ↦{fullShare} W (Proc.devRef .tc main_v1))
        ∗ (((c : Thread nD τ).loc main_v2) ↦{fullShare} W (Proc.devRef .tc main_v2)) ∗ (((c : Thread nD τ).loc main_v3) ↦{fullShare} W (Proc.devRef .tc main_v3))) := by
  unfold StableHlo.held
  rw [bigSep_eq_bigSepL_of_eq [Proc.devRef .tc main_arg0, Proc.devRef .tc main_arg1, Proc.devRef .tc main_arg2, Proc.devRef .tc main_arg3,
    Proc.devRef .tc main_arg4, Proc.devRef .tc main_v1, Proc.devRef .tc main_v2, Proc.devRef .tc main_v3] (by decide) (by decide)]
  rfl

/-! ## The kernel's region -/

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem opened_entry (c : Dev nD) : iprop(Pipeline.scopedRest (Pipeline.pin (pcfgs (F := F)) adm 0).spec c ∗ (∃ r, prngReg c r)
    ∗ StableHlo.held (c.tc : Thread nD τ) refsK (W₁ m c) ∗ ((∃ K, env (vals m) K) ∗ start0 (F := F) c)) ⊢ (pdats m 0 c).Φ 0 := by
  rw [show (pdats m 0 c).Φ 0 = entry m c from rfl, held_weights m c (W₁ m c) rfl rfl]
  unfold entry
  iintro ⟨Hs, Hp, Hw, HK, Hst⟩
  isplitl [HK]; · iexact HK
  isplitl [Hst]; · iexact Hst
  isplitl [Hw]; · iexact Hw
  isplitl [Hs]; · iexact Hs
  iexact Hp

theorem exit_left (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) refsK (W₂ m c) ∗ Pipeline.ownSems0 osem c ∗ semVal (barCell c) 0) := by
  have h3 : (Pipeline.ownSems0 osem c : sProp 𝕄) = bigSep Finset.univ fun i : Fin 20 => done c (at20 i) := rfl
  rw [show (pdats m 0 c).Φ (Fin.last _) = exit m c from rfl, held_weights m c (W₂ m c) (W₂_ne m c main_v1 (by decide)) (W₂_ne m c main_v2 (by decide)), h3]
  unfold exit finish0
  iintro ⟨⟨Hb, Hd⟩, Hw, Hs, Hp⟩
  isplitl [Hs]; · iexact Hs
  isplitl [Hp]; · iexact Hp
  isplitl [Hw]; · iexact Hw
  isplitl [Hd]; · iexact Hd
  iexact Hb

theorem cut (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then Orem c 0 else 0 := by
    obtain ⟨n, hn⟩ := t
    cases n <;> rfl
  rw [e] at h
  split at h
  · obtain ⟨k, -, rfl⟩ := Orem_pos c 0 g i h
    refine ⟨by rw [L_tc]; exact Finset.mem_singleton_self _, ?_⟩
    rw [lv_ob]
    split
    · exact Nat.one_pos
    · split
      · exact Nat.two_pos
      · split <;> exact Nat.succ_pos _
  · exact absurd h (Nat.lt_irrefl 0)

/-- The pipeline's own semaphores are of the lowest level. -/
theorem stage_level (c : Dev nD) : ∀ (w : Fin 4) (s : Fin (spec0 w).nbuf), lv ((c : Thread nD τ), .dma ((spec0 w).sem s)) () ≤ 0 := by
  show ∀ (w : Fin 4) (s : Fin (spec0 w).nbuf), lv (((0 : Dev nD) : Thread nD τ), .dma ((spec0 w).sem s)) () ≤ 0
  decide

/-- After the kernel each window's array: the inputs as before, the output as the body left it. -/
theorem arr_end (c : Dev nD) (w : Fin cfg0.W) : (dat m c).arrAt w cfg0.N = W₂ m c (Proc.devRef .tc (Pipeline.arrRef spec0 w)) := by
  fin_cases w
  · exact ((dat m c).arrAt_in 0 rfl _).trans (W₂_ne m c main_arg0 (by decide)).symm
  · exact ((dat m c).arrAt_in 1 rfl _).trans (W₂_ne m c main_arg2 (by decide)).symm
  · exact ((dat m c).arrAt_in 2 rfl _).trans (W₂_ne m c main_arg3 (by decide)).symm
  · refine ((dat m c).arrAt_eq_of_after_last 3 t0_0 (by decide +kernel) (result m c) fun j => ?_).trans (W₂_out m c).symm
    rfl

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    refsK refsR (by decide) kit rfl (fun c => (body_obligation m c).loose)
    (fun _ => 0) O₀ (fun c => (show (pdats m 0 c).owed 0 = O₀ c from rfl).trans (zero_add _).symm) (fun _ => rfl) (fun _ => rfl)
    (fun c => (pdats m 0 c).share_full fun _ => rfl)
    (W₁ m) (W₂ m) (fun c b hb => Function.update_of_ne (fun h => by subst h; revert hb; decide) ..)
    (dealt m) (fun c => semVal (barCell c) 0) (fun c => iprop((∃ K, env (vals m) K) ∗ start0 (F := F) c)) (fun c => semVal (barCell c) 0)
    (opens m) (opened_entry m) (exit_left m)
    (fun c => by iintro H; imodintro; iexact H)
    (fun _ => 0)
    ⟨fun c w s => by rw [L_tc]; exact Finset.mem_singleton_self _, fun c w s => stage_level c w s, fun c t g i h => cut m c t g i h⟩
    (fun _ => iprop(emp))
    (fun _ _ => rfl) (fun c w => arr_end m c w)

/-- What rides along the host operations. -/
def aside (c : Dev nD) : sProp 𝕄 := iprop(dealt m c ∗ (∃ r, prngReg c r) ∗ ∃ W, owes (c : Thread nD τ) (O₀ c) W)

theorem reg0_pre (c : Dev nD) : iprop(StableHlo.held (c : Thread nD τ) (Pipeline.ucRefs τ sig) (W₁ m c) ∗ aside m c) ⊢ (reg0 m).pre c := by
  show _ ⊢ iprop(StableHlo.held (c.tc : Thread nD τ) refsA (W₁ m c) ∗ (∃ r, prngReg c r)
    ∗ (StableHlo.held (c.tc : Thread nD τ) refsR (W₁ m c) ∗ emp) ∗ dealt m c ∗ ∃ Wd, owes (c : Thread nD τ) (0 + O₀ c) Wd)
  rw [held_arrays, zero_add]
  unfold aside
  iintro ⟨⟨Ha, Hr⟩, Hd, Hp, HO⟩
  isplitl [Ha]; · iexact Ha
  isplitl [Hp]; · iexact Hp
  isplitl [Hr]
  · isplitl [Hr]; · iexact Hr
    iempintro
  isplitl [Hd]; · iexact Hd
  iexact HO

theorem reg0_post (c : Dev nD) : (reg0 m).post c
    ⊢ iprop((StableHlo.held (c : Thread nD τ) (Pipeline.ucRefs τ sig) (W₂ m c) ∗ semVal (barCell c) 0) ∗ ∃ W, owes (c : Thread nD τ) (0 : CellTallies nD τ sig Unit) W) := by
  show iprop(StableHlo.held (c.tc : Thread nD τ) refsA (W₂ m c) ∗ (∃ r, prngReg c r)
    ∗ (StableHlo.held (c.tc : Thread nD τ) refsR (W₂ m c) ∗ emp) ∗ semVal (barCell c) 0 ∗ ∃ Wd, owes (c : Thread nD τ) (0 : CellTallies nD τ sig Unit) Wd) ⊢ _
  rw [held_arrays]
  iintro ⟨Ha, -, ⟨Hr, -⟩, Hb, HO⟩
  isplitr [HO]
  · isplitl [Ha Hr]
    · isplitl [Ha] <;> iassumption
    iexact Hb
  iexact HO

def seg0 : Pipeline.HostSeg (Name := ℕ) (U := UU) (pcfgs (F := F)) defs₀ 𝒱₀ L lv :=
  Pipeline.HostSeg.ofOps _ _ _ _ _ (Pipeline.ucRefs τ sig) hostOps0
    (fun op h => Pipeline.sub_ucRefs op (List.forall_iff_forall_mem.mp hostOps0_sub op h))
    (fun op h => List.forall_iff_forall_mem.mp hostOps0_fresh op h) (V₀ m) (aside m)

def segs : List (Pipeline.Seg (pcfgs (F := F)) adm (pdats m) () defs₀ 𝒱₀ L lv) := [.host (seg0 m), .region (reg0 m)]

/-! ## From the launch to the first segment -/

/-- All cells' records, unspent. -/
abbrev fund : UB := launchOf bars owns (barToks ∪ ownToks)

/-- The launch element: the pipeline's own, and the exchange's. -/
def u₀ : UU :=
  (initOf (Pipeline.cells (Pipeline.pin (pcfgs (F := F)) adm) cellOf_inj) (Pipeline.launchToks (Pipeline.pin (pcfgs (F := F)) adm) cellOf_inj), fund)

/-- A resource that device 0 keeps for all until the common first step. -/
def kept (X : sProp 𝕄) (c : Dev nD) : sProp 𝕄 := if c = 0 then X else iprop(emp)
theorem bigSep_kept (X : sProp 𝕄) : bigSep Finset.univ (kept X) = X := by
  rw [bigSep_univ_at _ (0 : Dev nD), bigSep_congr (s := Finset.univ.erase (0 : Dev nD)) (Ψ := fun _ => (BI.emp : sProp 𝕄))
      fun c hc => by unfold kept; rw [if_neg (Finset.ne_of_mem_erase hc)]; rfl, BI.bigSep_emp_const]
  unfold kept; rw [if_pos rfl]
  exact BI.equiv_iff.mp sep_emp

/-- What the launch gives a device beside the exchange's records. -/
def bundle (c : Dev nD) : sProp 𝕄 :=
  iprop(StableHlo.held (c : Thread nD τ) (Pipeline.ucRefs τ sig) (V₀ m c) ∗ Pipeline.launchCred O₀ c ∗ owes (c : Thread nD τ) (O₀ c) ∅ ∗ ∃ r, prngReg c r)

/-- What a device has when it starts. -/
abbrev T₀ (c : Dev nD) : sProp 𝕄 := iprop(StableHlo.held (c : Thread nD τ) (Pipeline.ucRefs τ sig) (V₀ m c) ∗ aside m c)

theorem T₀_intro (K : GSem nD τ sig → ℕ) (c : Dev nD) : iprop(records m K ∗ (share (F := F) c ∗ bundle m c)) ⊢ T₀ m c := by
  unfold bundle T₀ aside dealt
  iintro ⟨#HR, Hl, Hh, Hc, HO, Hp⟩
  isplitl [Hh]; · iexact Hh
  isplitl [Hl Hc]
  · isplitr
    · iexists K; iexact HR
    isplitl [Hl] <;> iassumption
  isplitl [Hp]; · iexact Hp
  iexists ∅; iexact HO

theorem unscopedSems0_eq (c : Dev nD) : (unscopedSems0 c : sProp 𝕄) = semVal (barCell c) 0 := by
  unfold unscopedSems0
  rw [bigSep_eq_bigSepL_of_eq [SemLoc.reg barrier0] (by decide) (by decide)]
  rfl

theorem shares : iprop((bigSep bars fun g => atPos ER g 0 ∅ 0) ∗ (bigSep owns fun g => openTok ER g)
    ∗ bigSep (barToks ∪ ownToks) (fun t => (dutyTok ER t.1 t.2.1 t.2.2 : sProp 𝕄))) ⊢ bigSep Finset.univ fun c : Dev nD => share (F := F) c := by
  have hat : bigSep bars (fun g => (atPos ER g 0 ∅ 0 : sProp 𝕄)) = bigSep Finset.univ (fun c : Dev nD => (atPos ER (barCell c) 0 ∅ 0 : sProp 𝕄)) :=
    bigSep_map (s := Finset.univ) _ (Φ := fun g : GSem nD τ sig => (atPos ER g 0 ∅ 0 : sProp 𝕄))
  have hopen : bigSep owns (fun g => (openTok ER g : sProp 𝕄))
      = bigSep Finset.univ (fun c : Dev nD => bigSep Finset.univ fun i : Fin 20 => openTok ER (dCell c (at20 i))) := by
    unfold owns
    rw [bigSep_map, bigSep_univ_prod]
    rfl
  rw [hat, hopen, toks_dealt]
  unfold share
  iintro ⟨Hat, Hopen, Hj, Ht⟩
  iapply Smoke.bigSep_pair; isplitl [Hat]; · iexact Hat
  iapply Smoke.bigSep_pair; isplitl [Hopen]; · iexact Hopen
  iapply Smoke.bigSep_pair
  isplitl [Hj] <;> iassumption

/-- The launch's resources of a device, sorted. -/
theorem sorted (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ kept (BI.own (ER fund)) c)
      ⊢ (iprop(bundle m c ∗ (semVal (barCell c) 0 ∗ kept (BI.own (ER fund)) c)) : sProp 𝕄) := by
  rw [show unscopedBufs c (fun b => m ((c : Thread nD τ).loc b)) = StableHlo.held (c : Thread nD τ) (Pipeline.ucRefs τ sig) (V₀ m c) from
    Pipeline.unscopedBufs_held c (V₀ m c), unscopedSems0_eq]
  unfold bundle
  iintro ⟨Hh, Hus, HO, Hcr, Hp, HG⟩
  isplitl [Hh Hcr HO Hp]
  · isplitl [Hh]; · iexact Hh
    isplitl [Hcr]; · iexact Hcr
    isplitl [HO]; · iexact HO
    iexists (ρ c); iexact Hp
  isplitl [Hus] <;> iassumption

/-- The records are made, and every device has its share. -/
theorem made : iprop((bigSep Finset.univ fun c : Dev nD => bundle m c) ∗ (bigSep Finset.univ fun c : Dev nD => semVal (barCell c) 0)
      ∗ bigSep Finset.univ fun c : Dev nD => kept (BI.own (ER fund)) c)
      ⊢ (|={Set.univ}=> bigSep Finset.univ (T₀ m) : sProp 𝕄) := by
  have hv : bigSep Finset.univ (fun c : Dev nD => (semVal (barCell c) 0 : sProp 𝕄)) ⊢ bigSep bars (fun g => (semVal g 0 : sProp 𝕄)) :=
    Entails.of_eq (by unfold bars; rw [bigSep_map]; rfl)
  have hu : bigSep Finset.univ (fun c : Dev nD => kept (BI.own (ER fund)) c) ⊢ (BI.own (ER fund) : sProp 𝕄) := Entails.of_eq (bigSep_kept _)
  iintro ⟨HB, Hv, HG⟩
  ihave Hu := hu $$ HG
  ihave Hv := hv $$ Hv
  imod (Rounds.fund_launch ER (plan (vals m)) cells_disjoint (fun g _ h => h) (barToks ∪ ownToks)) $$ [Hv Hu] with ⟨%κ, -, #Hinv, #Hr, Hat, Hopen, Htok⟩
  · isplitl [Hv]
    · iexact Hv
    · iexact Hu
  imodintro
  iapply (bigSep_with_persistent (R := records m κ) (Φ := fun c => iprop(share (F := F) c ∗ bundle m c)) fun c _ => T₀_intro m κ c)
  isplitr
  · unfold records
    isplitr; · iexact Hinv
    iexact Hr
  iapply Smoke.bigSep_pair
  isplitr [HB]
  · iapply (shares (F := F))
    isplitl [Hat]; · iexact Hat
    isplitl [Hopen] <;> iassumption
  · iexact HB

/-- The common first step. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ kept (BI.own (ER fund)) c)) ∗ levAts L lv)
      ⊢ (|={Set.univ}=> bigSep Finset.univ (T₀ m) : sProp 𝕄) := by
  refine sep_elim_left.trans ((bigSep_mono fun c _ => sorted m ρ c).trans ?_)
  refine (Entails.of_eq ?_).trans (made m)
  rw [bigSep_sep', bigSep_sep']

/-! ## The run -/

theorem unscoped_eq : ∀ sm : SemLoc sig, sm.isScoped .tc = false → sm = .reg barrier0 := by decide

/-- A device's buffers at the end. -/
abbrev Ends (c : Dev nD) (s : MemSt nD τ sig (Elt F)) : Prop :=
  s.mem ((c : Thread nD τ).loc main_v3) = result m c
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)

set_option backward.isDefEq.respectTransparency.types false in
/-- From any memory with zero counters the program ends on all sixteen devices; then every device's result is `result`, its
    arguments are unchanged, and every semaphore of the mesh is back at zero. -/
theorem run_main : θ_run defs (onTc (τ := τ) (main (F := F))) ⟨m, fun _ => 0, ρ⟩ (fun r => (∀ c : Dev nD, Ends m c r.2) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (seg0 m) (reg0 m) rfl c]; exact .rfl)
    (by simp only [segs, Pipeline.Seg.pipes_host, Pipeline.Seg.pipes_region, Pipeline.Seg.pipes_nil]; decide)
    (O₀ := O₀) (hL := L_of_ne) (G := kept (BI.own (ER fund))) (u₀ := u₀ (F := F))
    (hu₀ := by
      unfold u₀
      iintro Hu
      ihave H := (ownU_pair _ _) $$ Hu
      icases H with ⟨HP, HX⟩
      imodintro
      isplitl [HP]; · iexact HP
      rw [bigSep_kept]; iexact HX)
    (T₀ := T₀ m) (Tₙ := fun c => iprop(StableHlo.held (c : Thread nD τ) (Pipeline.ucRefs τ sig) (W₂ m c) ∗ semVal (barCell c) 0))
    (hch := ⟨fun c => .rfl, fun c => reg0_pre m c, fun c => reg0_post m c⟩)
    (hinit := init m ρ)
    (QY := fun c s => Ends m c s ∧ s.sem (barCell c) = 0)
    (hfin := fun c s' => by
      rw [held_all, W₂_out, W₂_ne m c main_arg0 (by decide), W₂_ne m c main_arg1 (by decide), W₂_ne m c main_arg2 (by decide),
        W₂_ne m c main_arg3 (by decide), W₂_ne m c main_arg4 (by decide), V_main_arg0, V_main_arg1, V_main_arg2, V_main_arg3, V_main_arg4]
      iintro ⟨⟨⟨H0, H1, H2, H3, H4, -, -, Hr⟩, Hb⟩, HSI⟩
      icombine HSI H0 gives %h0
      icombine HSI H1 gives %h1
      icombine HSI H2 gives %h2
      icombine HSI H3 gives %h3
      icombine HSI H4 gives %h4
      icombine HSI Hr gives %hr
      icombine HSI Hb gives %hb
      imodintro
      isplitr
      · ipureintro
        exact ⟨⟨Buf.eq_of_forall_mem_univ hr, Buf.eq_of_forall_mem_univ h0, Buf.eq_of_forall_mem_univ h1, Buf.eq_of_forall_mem_univ h2,
          Buf.eq_of_forall_mem_univ h3, Buf.eq_of_forall_mem_univ h4⟩, by simpa using hb⟩
      iexact HSI)
    (hQ := fun s h hs => ⟨fun c => (h c).1, sem_eq_zero hs fun c sm hsm => by
        obtain rfl := unscoped_eq sm hsm
        exact (h c).2⟩)

end Cert.KernelIdeal.Cross

end
-- ==== Proof.Same.lean ====
/-
  The compiled kernel and the kernel over the reals are printed from one text: their body tables are equal over any float values.
-/
module

public import proofs.«01_k».proof.Proof.Launch
public import proofs.«01_k».proof.Defs
public import proofs.«01_k».proof.Proof.Gen.Kernel

@[expose] public section

noncomputable section

namespace Cert.Same

open Idealize.ShloMosaic Idealize.SL.Sem

variable {F : FTy → Type} [FloatOps F]

/-- The two body tables have the same single entry. -/
theorem bodies : Cert.Kernel.defs₀ (F := F) = Cert.KernelIdeal.defs₀ (F := F) := by
  unfold Cert.Kernel.defs₀ Cert.KernelIdeal.defs₀
  congr 1
  funext l a
  match l with
  | 0 => rfl

/-- So the two programs' tables are the same. -/
theorem tables : Cert.Kernel.defs (F := F) = Cert.KernelIdeal.defs (F := F) := by
  unfold Cert.Kernel.defs Cert.KernelIdeal.defs
  exact congrArg (Pipeline.defs Cert.KernelIdeal.pcfgs) bodies

/-- The compiled kernel ends on every device, its arguments unchanged and every semaphore at zero: the run at machine floats. -/
theorem frame_kernel : Cert.quiescent_Kernel := fun m ρ _ => by
  rw [tables]
  exact (θ_run Cert.KernelIdeal.defs _ _).mono (fun _ h => (⟨fun c => (h.1 c).2, h.2⟩ : (∀ c, _) ∧ _)) (Cert.KernelIdeal.Cross.run_main (F := Bits) m ρ)

end Cert.Same

end
-- ==== Proof.Head.lean ====
/-
  One attention head: the mathematics, and the kernel's operations for one head read as that.
-/
module

public import proofs.«01_k».proof.Proof.Gen.KernelIdeal.Skeleton
public import Idealize.ShloMosaic.Lib.Pointwise

@[expose] public section

noncomputable section

namespace Cert.Head

open Idealize.ShloMosaic
open Cert.KernelIdeal Cert.KernelIdeal.Gen

/-- The scaled score of query row `i` against key row `j`. -/
def score (q k : Fin 128 → Fin 64 → EReal) (i j : Fin 128) : EReal :=
  (∑ d : Fin 64, q i d * k j d) * Ideal.ofBits .f32 0x3E000000#32
/-- The largest score of a query row. -/
def top (q k : Fin 128 → Fin 64 → EReal) (i : Fin 128) : EReal :=
  Finset.univ.fold max (Ideal.ofBits .f32 0xFF800000#32) fun j : Fin 128 => score q k i j
/-- The unnormalised weight. -/
def raw (q k : Fin 128 → Fin 64 → EReal) (i j : Fin 128) : EReal := Ideal.exp (score q k i j - top q k i)
/-- The weight: the raw weight over its row's sum. -/
def wt (q k : Fin 128 → Fin 64 → EReal) (i j : Fin 128) : EReal := Ideal.div (raw q k i j) (∑ l : Fin 128, raw q k i l)
/-- The head's output at query row `i`: the values averaged with the weights. -/
def att (q k v : Fin 128 → Fin 64 → EReal) (i : Fin 128) (d : Fin 64) : EReal := ∑ j : Fin 128, wt q k i j * v j d

/-- A 128 × 64 array as a function of its two coordinates. -/
abbrev mat (X : FVec Ideal S128x64 .f32) : Fin 128 → Fin 64 → EReal := fun i d => X (ix2 i d)

/-- The kernel's scores of one head. -/
def kscore (q k : FVec Ideal S128x64 .f32) : FVec Ideal S128x128 .f32 :=
  matmul dot_S128x64_S128x64_S128x128_1_1_0_0_n_n none q k (constant S128x128 .f32 0x00000000#32)
/-- The kernel's weights of one head, from its scores. -/
def kweight (s : FVec Ideal S128x128 .f32) : FVec Ideal S128x128 .f32 :=
  have v56 : FVec Ideal S128x128 .f32 := mulf s (broadcast S128x128 (Scalar.ofBits .f32 0x3E000000#32))
  have v57 : FVec Ideal S128 .f32 := multiReduction .maximumf [1] S128 v56 0xFF800000#32 reduces_S128x128_S128 (.inl rfl) rfl
  have v61 : FVec Ideal S128x128 .f32 := exp (subf v56 (broadcastTo S128x128 (shapeCast S128x1 v57 shapeCasts_S128_S128x1) broadcasts_S128x1_S128x128))
  have v62 : FVec Ideal S128 .f32 := multiReduction .add [1] S128 v61 0x00000000#32 reduces_S128x128_S128 (.inl rfl) rfl
  divf v61 (broadcastTo S128x128 (shapeCast S128x1 v62 shapeCasts_S128_S128x1) broadcasts_S128x1_S128x128)
/-- The kernel's output of one head, from its weights. -/
def kout (w : FVec Ideal S128x128 .f32) (v : FVec Ideal S128x64 .f32) : FVec Ideal S128x64 .f32 :=
  matmul dot_S128x128_S128x64_S128x64_1_0_0_1_n_n none w v (constant S128x64 .f32 0x00000000#32)

theorem kweight_apply (q k : FVec Ideal S128x64 .f32) (i j : Fin 128) :
    kweight (kscore q k) (ix2 i j) = wt (mat q) (mat k) i j := by
  pointwise [kweight, kscore, wt, raw, top, score]

/-- The kernel's operations for one head are the head. -/
theorem kout_apply (q k v : FVec Ideal S128x64 .f32) (i : Fin 128) (d : Fin 64) :
    kout (kweight (kscore q k)) v (ix2 i d) = att (mat q) (mat k) (mat v) i d := by
  unfold att
  simp only [← kweight_apply]
  pointwise [kout]

end Cert.Head

end
-- ==== Proof.Pay.lean ====
/-
  The product each device computes, read entry by entry: the heads' outputs beside each other, times the device's rows of the output weights.
-/
module

public import proofs.«01_k».proof.Proof.Head
public import proofs.«01_k».proof.Proof.Parts

@[expose] public section

noncomputable section

namespace Cert.Head

open Idealize.ShloMosaic
open Cert.KernelIdeal Cert.KernelIdeal.Gen Cert.KernelIdeal.Cross

/-- Four heads' outputs beside each other, read at head `h`, column `d`. -/
theorem beside (v0 v1 v2 v3 : FVec Ideal S128x64 .f32) (i : Fin 128) (h : Fin 4) (d : Fin 64) :
    concatenate S128x256 1 [⟨S128x64, v0⟩, ⟨S128x64, v1⟩, ⟨S128x64, v2⟩, ⟨S128x64, v3⟩] concatenates_S128x64_S128x64_S128x64_S128x64_S128x256_d1
      (ix2 i ⟨h.val * 64 + d.val, by omega⟩) = (![v0, v1, v2, v3] h) (ix2 i d) := by
  have hd := d.isLt
  fin_cases h
  · pointwise
  · pointwise
  · pointwise
    rw [dif_neg (by omega), dif_neg (by omega), dif_pos (by omega)]
    exact congrArg v2 (by congr 1; ext; simp only []; omega)
  · pointwise
    rw [dif_neg (by omega), dif_neg (by omega), dif_neg (by omega)]
    exact congrArg v3 (by congr 1; ext; simp only []; omega)

/-- Two batches' rows above each other, read at batch `b`, row `i`. -/
theorem above (v0 v1 : FVec Ideal S128x256 .f32) (b : Fin 2) (i : Fin 128) (e : Fin 256) :
    concatenate S256x256 0 [⟨S128x256, v0⟩, ⟨S128x256, v1⟩] concatenates_S128x256_S128x256_S256x256_d0
      (ix2 ⟨b.val * 128 + i.val, by omega⟩ e) = (![v0, v1] b) (ix2 i e) := by
  have hi := i.isLt
  fin_cases b <;> pointwise

theorem head_slices (b : Fin 2) (h : Fin 4) : S2x128x4x64.Slices ![b.val, 0, h.val, 0] S1x128x1x64 := by
  revert b h; decide

/-- The queries of batch `b`, head `h`. -/
def qAt (Q : FVec Ideal S2x128x4x64 .f32) (b : Fin 2) (h : Fin 4) : FVec Ideal S128x64 .f32 :=
  shapeCast S128x64 (extractStridedSlice S1x128x1x64 ![b.val, 0, h.val, 0] Q (head_slices b h)) shapeCasts_S1x128x1x64_S128x64
/-- The keys or the values of batch `b`, head `h`. -/
def kAt (X : FVec Ideal S2x128x4x64 .f32) (b : Fin 2) (h : Fin 4) : FVec Ideal S128x64 .f32 :=
  shapeCast S128x64 (headAt (F := Ideal) X b h) shapeCasts_S1x128x1x64_S128x64

theorem mat_qAt (Q : FVec Ideal S2x128x4x64 .f32) (b : Fin 2) (h : Fin 4) : mat (qAt Q b h) = fun i d => Q (ix4 b i h d) := by
  funext i d
  fin_cases b <;> fin_cases h <;> (show qAt Q _ _ (ix2 i d) = _; pointwise [qAt])
theorem mat_kAt (X : FVec Ideal S2x128x4x64 .f32) (b : Fin 2) (h : Fin 4) : mat (kAt X b h) = fun i d => X (ix4 b i h d) := by
  funext i d
  show kAt X b h (ix2 i d) = _
  pointwise [kAt]
  unfold headAt
  exact congrArg X (by idx_ext)

/-- One head's output on a device. -/
def outAt (Q k w : FVec Ideal S2x128x4x64 .f32) (b : Fin 2) (h : Fin 4) : FVec Ideal S128x64 .f32 :=
  kout (kweight (kscore (qAt Q b h) (kAt k b h))) (kAt w b h)
/-- A batch's four heads beside each other. -/
def rowsAt (Q k w : FVec Ideal S2x128x4x64 .f32) (b : Fin 2) : FVec Ideal S128x256 .f32 :=
  concatenate S128x256 1 [⟨S128x64, outAt Q k w b 0⟩, ⟨S128x64, outAt Q k w b 1⟩, ⟨S128x64, outAt Q k w b 2⟩, ⟨S128x64, outAt Q k w b 3⟩]
    concatenates_S128x64_S128x64_S128x64_S128x64_S128x256_d1

theorem rowsAt_apply (Q k w : FVec Ideal S2x128x4x64 .f32) (b : Fin 2) (i : Fin 128) (h : Fin 4) (d : Fin 64) :
    rowsAt Q k w b (ix2 i ⟨h.val * 64 + d.val, by omega⟩)
      = att (fun i d => Q (ix4 b i h d)) (fun j d => k (ix4 b j h d)) (fun j d => w (ix4 b j h d)) i d := by
  rw [rowsAt, beside, ← mat_qAt, ← mat_kAt, ← mat_kAt, ← kout_apply]
  fin_cases h <;> rfl

/-- The device's product, head by head. -/
theorem tval_eq (x : FVec Ideal S2x128x512 .f32) (wq : FVec Ideal S512x1x256 .f32) (k w : FVec Ideal S2x128x4x64 .f32) (wo : FVec Ideal S1x256x512 .f32) :
    tval (F := Ideal) x wq k w wo = shapeCast S256x512 (matmul dot_S256x256_S256x512_S256x512_1_0_0_1_n_n none
      (concatenate S256x256 0 [⟨S128x256, rowsAt (k0_pay2 (F := Ideal) x wq) k w 0⟩, ⟨S128x256, rowsAt (k0_pay2 (F := Ideal) x wq) k w 1⟩] concatenates_S128x256_S128x256_S256x256_d0)
      (shapeCast S256x512 wo shapeCasts_S1x256x512_S256x512) (constant S256x512 .f32 0x00000000#32)) shapeCasts_S256x512_S256x512 := rfl

/-- A device's queries. -/
theorem queries (x : FVec Ideal S2x128x512 .f32) (wq : FVec Ideal S512x1x256 .f32) (b : Fin 2) (i : Fin 128) (h : Fin 4) (d : Fin 64) :
    k0_pay2 (F := Ideal) x wq (ix4 b i h d) = ∑ p : Fin 512, x (ix3 b i p) * wq (ix3 p 0 ⟨h.val * 64 + d.val, by omega⟩) := by
  pointwise [k0_pay2]

/-- An entry of the device's product, a sum over its heads and their columns. -/
theorem tval_apply (x : FVec Ideal S2x128x512 .f32) (wq : FVec Ideal S512x1x256 .f32) (k w : FVec Ideal S2x128x4x64 .f32) (wo : FVec Ideal S1x256x512 .f32)
    (b : Fin 2) (i : Fin 128) (n : Fin 512) :
    tval (F := Ideal) x wq k w wo (ix2 ⟨b.val * 128 + i.val, by omega⟩ n)
      = ∑ h : Fin 4, ∑ d : Fin 64, att (fun i d => ∑ p : Fin 512, x (ix3 b i p) * wq (ix3 p 0 ⟨h.val * 64 + d.val, by omega⟩))
          (fun j d => k (ix4 b j h d)) (fun j d => w (ix4 b j h d)) i d * wo (ix3 0 ⟨h.val * 64 + d.val, by omega⟩ n) := by
  rw [tval_eq]
  generalize hQ : k0_pay2 (F := Ideal) x wq = Q
  simp only [← queries, hQ, ← rowsAt_apply]
  refine Eq.trans (b := ∑ e : Fin 256, rowsAt Q k w b (ix2 i e) * wo (ix3 0 e n)) ?_ (Fin.sum_univ_tiles 4 64 rfl _)
  have key : ∀ e : Fin 256, rowsAt Q k w b (ix2 i e) = concatenate S256x256 0 [⟨S128x256, rowsAt Q k w 0⟩, ⟨S128x256, rowsAt Q k w 1⟩] concatenates_S128x256_S128x256_S256x256_d0
      (ix2 ⟨b.val * 128 + i.val, by omega⟩ e) := by
    intro e; rw [above]; fin_cases b <;> rfl
  simp only [key]
  generalize concatenate S256x256 0 [⟨S128x256, rowsAt Q k w 0⟩, ⟨S128x256, rowsAt Q k w 1⟩] concatenates_S128x256_S128x256_S256x256_d0 = C
  pointwise

end Cert.Head

end
-- ==== Proof.Ref.lean ====
/-
  The reference's value, entry by entry: every head's output, times the output weights.
-/
module

public import proofs.«01_k».proof.Proof.Head
public import proofs.«01_k».proof.Proof.Gen.ReferenceIdeal.Run

@[expose] public section

noncomputable section

namespace Cert.Ref

open Idealize.ShloMosaic Idealize.ShloMosaic.TcCoe
open Cert.ReferenceIdeal Cert.ReferenceIdeal.Gen
open Cert.Head (score top raw wt att)

/-- The window's mask: is the key row within 128 of the query row. -/
def mask : IVec S128x128 1 :=
  cmpi .sle (absi (subi (broadcastInDim S128x128 ![0, 1] bcast_S128x1_S128x128_0_1 (broadcastInDim S128x1 ![0] bcast_S128_S128x1_0 (iotaInDim S128 32 0)))
    (broadcastInDim S128x128 ![0, 1] bcast_S1x128_S128x128_0_1 (broadcastInDim S1x128 ![1] bcast_S128_S1x128_1 (iotaInDim S128 32 0)))))
    (broadcastInDim S128x128 ![] bcast_S_S128x128 (constantI S_ 32 128#32))

theorem within : ∀ i j : Fin 128, IntOp.cmpi .sle (IntOp.absi (BitVec.ofNat 32 i.val - BitVec.ofNat 32 j.val)) 128#32 = 1#1 := by
  decide +kernel

/-- Of 128 rows, every two are within 128 of each other. -/
theorem mask_eq : mask = fun _ => 1#1 := by
  funext y
  idx_vars y
  pointwise [mask]
  exact within _ _

/-- Which query rows keep a key. -/
def kept : IVec S128 1 := Host.reduce IntOp.ori mask (constantI S_ 1 0#1) reducesTo_S128x128_S128_d1 h_S_

theorem kept_eq : kept = fun _ => 1#1 := by
  funext y
  idx_vars y
  unfold kept
  rw [mask_eq]
  pointwise
  rfl

variable (X : FVec Ideal S2x128x512 .f32) (Wq : FVec Ideal S512x4096 .f32) (K V : FVec Ideal S2x128x64x64 .f32) (Wo : FVec Ideal S4096x512 .f32)

/-- The queries. -/
def rQ : FVec Ideal S2x128x64x64 .f32 :=
  shapeCast _ (Host.dotGeneral dot_S2x128x512_S512x4096_S2x128x4096_2_0_01_1_n_n none X Wq) shapeCasts_S2x128x4096_S2x128x64x64
/-- The masked scores. -/
def rS (Q : FVec Ideal S2x128x64x64 .f32) : FVec Ideal S2x64x128x128 .f32 :=
  select (broadcastInDim S2x64x128x128 ![0, 1, 2, 3] bcast_S1x1x128x128_S2x64x128x128_0_1_2_3 (broadcastInDim S1x1x128x128 ![2, 3] bcast_S128x128_S1x1x128x128_2_3 mask))
    (mulf (Host.dotGeneral dot_S2x128x64x64_S2x128x64x64_S2x64x128x128_3_3_1_1_02_02 none Q K) (broadcastInDim S2x64x128x128 ![] bcast_S_S2x64x128x128 (constant S_ .f32 0x3E000000#32)))
    (broadcastInDim S2x64x128x128 ![] bcast_S_S2x64x128x128 (id (constant S_ .f32 0xCE6E6B28#32)))
/-- The unnormalised weights. -/
def rE (S : FVec Ideal S2x64x128x128 .f32) : FVec Ideal S2x64x128x128 .f32 :=
  Host.exp (subf S (broadcastInDim S2x64x128x128 ![0, 1, 2, 3] bcast_S2x64x128x1_S2x64x128x128_0_1_2_3 (broadcastInDim S2x64x128x1 ![0, 1, 2] bcast_S2x64x128_S2x64x128x1_0_1_2
    (Host.reduce FloatOps.maximumf S (constant S_ .f32 0xFF800000#32) reducesTo_S2x64x128x128_S2x64x128_d3 h_S_))))
/-- The weights. -/
def rW (E : FVec Ideal S2x64x128x128 .f32) : FVec Ideal S2x64x128x128 .f32 :=
  select (broadcastInDim S2x64x128x128 ![0, 1, 2, 3] bcast_S1x1x128x1_S2x64x128x128_0_1_2_3 (broadcastInDim S1x1x128x1 ![2] bcast_S128_S1x1x128x1_2 kept))
    (Host.divf E (broadcastInDim S2x64x128x128 ![0, 1, 2, 3] bcast_S2x64x128x1_S2x64x128x128_0_1_2_3
      (select (broadcastInDim S2x64x128x1 ![0, 1, 2, 3] bcast_S1x1x128x1_S2x64x128x1_0_1_2_3 (broadcastInDim S1x1x128x1 ![2] bcast_S128_S1x1x128x1_2 kept))
        (broadcastInDim S2x64x128x1 ![0, 1, 2] bcast_S2x64x128_S2x64x128x1_0_1_2 (Host.reduceAdd E (constant S_ .f32 0x00000000#32) reducesTo_S2x64x128x128_S2x64x128_d3 h_S_))
        (broadcastInDim S2x64x128x1 ![] bcast_S_S2x64x128x1 (id (constant S_ .f32 0x3F800000#32))))))
    (broadcastInDim S2x64x128x128 ![] bcast_S_S2x64x128x128 (id (constant S_ .f32 0x00000000#32)))
/-- The heads' outputs, side by side. -/
def rC (W : FVec Ideal S2x64x128x128 .f32) : FVec Ideal S2x128x4096 .f32 :=
  shapeCast _ (transpose S2x128x64x64 [0, 3, 1, 2] (Host.dotGeneral dot_S2x128x64x64_S2x64x128x128_S2x64x64x128_1_3_3_2_02_01 none V W)
    transposes_S2x64x64x128_S2x128x64x64_0_3_1_2) shapeCasts_S2x128x64x64_S2x128x4096
/-- The reference's result as a function of its arrays. -/
def rOut : FVec Ideal S2x128x512 .f32 :=
  Host.dotGeneral dot_S2x128x4096_S4096x512_S2x128x512_2_0_01_1_n_n none (rC V (rW (rE (rS K (rQ X Wq))))) Wo

theorem res_eq (m : (ℓ : Loc nD τ sig) → Buf (Elt Ideal) ℓ) (c : Dev nD) :
    Value.res_main_v34 m c = rOut (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

theorem rQ_apply (b : Fin 2) (i : Fin 128) (h d : Fin 64) :
    rQ X Wq (ix4 b i h d) = ∑ p : Fin 512, X (ix3 b i p) * Wq (ix2 p ⟨h.val * 64 + d.val, by omega⟩) := by
  pointwise [rQ]

theorem rS_apply (Q : FVec Ideal S2x128x64x64 .f32) (b : Fin 2) (h : Fin 64) (i j : Fin 128) :
    rS K Q (ix4 b h i j) = score (fun i d => Q (ix4 b i h d)) (fun j d => K (ix4 b j h d)) i j := by
  unfold rS score
  rw [mask_eq]
  pointwise

theorem rE_apply (S : FVec Ideal S2x64x128x128 .f32) (q k : Fin 128 → Fin 64 → EReal) (b : Fin 2) (h : Fin 64)
    (hS : ∀ i j, S (ix4 b h i j) = score q k i j) (i j : Fin 128) : rE S (ix4 b h i j) = raw q k i j := by
  unfold rE raw top
  simp only [← hS]
  pointwise

theorem rW_apply (E : FVec Ideal S2x64x128x128 .f32) (q k : Fin 128 → Fin 64 → EReal) (b : Fin 2) (h : Fin 64)
    (hE : ∀ i j, E (ix4 b h i j) = raw q k i j) (i j : Fin 128) : rW E (ix4 b h i j) = wt q k i j := by
  unfold rW wt
  simp only [← hE]
  rw [kept_eq]
  pointwise

theorem rC_apply (W : FVec Ideal S2x64x128x128 .f32) (b : Fin 2) (i : Fin 128) (h d : Fin 64) :
    rC V W (ix3 b i ⟨h.val * 64 + d.val, by omega⟩) = ∑ j : Fin 128, W (ix4 b h i j) * V (ix4 b j h d) := by
  unfold rC
  pointwise
  exact Finset.sum_congr rfl fun j _ => mul_comm _ _

/-- The output of head `h`, query row `i`, column `d`, from the whole arrays. -/
def ctxOf (b : Fin 2) (i : Fin 128) (h d : Fin 64) : EReal :=
  att (fun i d => ∑ p : Fin 512, X (ix3 b i p) * Wq (ix2 p ⟨h.val * 64 + d.val, by omega⟩)) (fun j d => K (ix4 b j h d)) (fun j d => V (ix4 b j h d)) i d

/-- An entry of the reference's result, a sum over the heads and their columns. -/
theorem rOut_apply (b : Fin 2) (i : Fin 128) (n : Fin 512) :
    rOut X Wq K V Wo (ix3 b i n) = ∑ h : Fin 64, ∑ d : Fin 64, ctxOf X Wq K V b i h d * Wo (ix2 ⟨h.val * 64 + d.val, by omega⟩ n) := by
  have hc : ∀ h d : Fin 64, ctxOf X Wq K V b i h d = rC V (rW (rE (rS K (rQ X Wq)))) (ix3 b i ⟨h.val * 64 + d.val, by omega⟩) := by
    intro h d
    rw [rC_apply]
    simp only [rW_apply _ _ _ b h (rE_apply _ _ _ b h (rS_apply K (rQ X Wq) b h)), rQ_apply]
    rfl
  simp only [hc]
  unfold rOut
  generalize rC V (rW (rE (rS K (rQ X Wq)))) = C
  refine Eq.trans (b := ∑ e : Fin 4096, C (ix3 b i e) * Wo (ix2 e n)) ?_ (Fin.sum_univ_tiles 64 64 rfl _)
  pointwise

end Cert.Ref

end
-- ==== Proof.Total.lean ====
/-
  The two exchanges add up all sixteen devices' products: every device's result is their sum.
-/
module

public import proofs.«01_k».proof.Proof.Region
public import Idealize.ShloMosaic.Lib.Pointwise

@[expose] public section

noncomputable section

namespace Cert.Total

open Idealize.ShloMosaic
open Cert.KernelIdeal Cert.KernelIdeal.Gen Cert.KernelIdeal.Cross

/-- A device (number 0) or one of its three partners in the plane. -/
def inPlane (a : Fin 4) (c : Dev nD) : Dev nD := ![c, peer (near 0) c, peer (near 1) c, peer (near 2) c] a
/-- A device (number 0) or one of its three partners across the planes. -/
def across (o : Fin 4) (c : Dev nD) : Dev nD := ![c, peer (far 0) c, peer (far 1) c, peer (far 2) c] o

/-- From any device, one step across and one step in the plane lead to each device exactly once. -/
theorem walk_bij : ∀ c : Dev nD, Function.Bijective fun p : Fin 4 × Fin 4 => inPlane p.2 (across p.1 c) := by decide +kernel

theorem place_across : ∀ (o : Fin 3) (c : Dev nD), place (peer (far o) c) = place c := by decide +kernel
theorem place_owner : ∀ (c : Dev nD) (b : Fin 4), place (owner c b) = b := by decide +kernel

/-- A sum over the planes of sums over a plane is the sum over all devices. -/
theorem sum_walk (f : Dev nD → EReal) (c : Dev nD) : ∑ o : Fin 4, ∑ a : Fin 4, f (inPlane a (across o c)) = ∑ d : Dev nD, f d := by
  rw [← Fintype.sum_prod_type' (f := fun o a => f (inPlane a (across o c)))]
  exact (walk_bij c).sum_comp f

/-- The row of the product that block `b`, row `y` is. -/
theorem blk_apply (X : FVec Ideal S256x512 .f32) (b : Fin 4) (r : Fin 64) (n : Fin 512) :
    blk (F := Ideal) X b (ix64 r n) = X (ix2 ⟨b.val * 64 + r.val, by omega⟩ n) := by
  refine congrArg X (funext fun a => Fin.ext ?_)
  match a with
  | ⟨0, _⟩ => show 64 * b.val + 1 * r.val = b.val * 64 + r.val; omega
  | ⟨1, _⟩ => show 0 + 1 * n.val = n.val; omega

theorem up_apply (X : FVec Ideal S64x512 .f32) (r : Fin 64) (n : Fin 512) : up (F := Ideal) X (ix3 0 r n) = X (ix2 r n) := by
  unfold up
  pointwise

theorem ix64_eq (r : Fin 64) (n : Fin 512) : ix64 r n = ix2 r n := by
  funext a
  match a with
  | ⟨0, _⟩ => rfl
  | ⟨1, _⟩ => rfl

/-- Four blocks added, in the order of the exchange in the plane. -/
theorem add4 (a : FVec Ideal S64x512 .f32) (x y z : FVec Ideal S64x512 .f32) (r : Fin 64) (n : Fin 512) :
    k0_pay15 a (up (F := Ideal) x) (up (F := Ideal) y) (up (F := Ideal) z) (ix64 r n) = a (ix64 r n) + x (ix64 r n) + y (ix64 r n) + z (ix64 r n) := by
  simp only [ix64_eq, ← up_apply x, ← up_apply y, ← up_apply z]
  generalize up (F := Ideal) x = x, up (F := Ideal) y = y, up (F := Ideal) z = z
  pointwise [k0_pay15]
/-- The same, in the order of the exchange across the planes. -/
theorem add4' (a : FVec Ideal S64x512 .f32) (x y z : FVec Ideal S64x512 .f32) (r : Fin 64) (n : Fin 512) :
    k0_pay16 a (up (F := Ideal) x) (up (F := Ideal) y) (up (F := Ideal) z) (ix64 r n) = a (ix64 r n) + x (ix64 r n) + y (ix64 r n) + z (ix64 r n) :=
  add4 a x y z r n

variable (v : Vals Ideal)

/-- A device's block after the exchange in the plane: the plane's sum. -/
theorem A1_apply (c : Dev nD) (r : Fin 64) (n : Fin 512) :
    A1 v c (ix64 r n) = ∑ a : Fin 4, blk (v.T (inPlane a c)) (place c) (ix64 r n) := by
  rw [A1, add4, Fin.sum_univ_four]
  rfl

/-- A device's block at the end: the sum over all devices. -/
theorem A2_apply (c : Dev nD) (r : Fin 64) (n : Fin 512) :
    A2 v c (ix64 r n) = ∑ d : Dev nD, blk (v.T d) (place c) (ix64 r n) := by
  rw [A2, add4', A1_apply, A1_apply, A1_apply, A1_apply, place_across, place_across, place_across, ← sum_walk _ c,
    Fin.sum_univ_four (fun o => ∑ a : Fin 4, _)]
  rfl

/-- An entry of the accumulator at the end: the sum over all devices, the same on every device. -/
theorem fin_apply (c : Dev nD) (r : Fin 256) (n : Fin 512) : fin v c (ix2 r n) = ∑ d : Dev nD, v.T d (ix2 r n) := by
  have h : fin v c (ix2 r n) = A2 v (owner c ⟨r.val / 64, by omega⟩) (ix64 ⟨r.val % 64, by omega⟩ n) := rfl
  rw [h, A2_apply, place_owner]
  refine Finset.sum_congr rfl fun d _ => ?_
  rw [blk_apply]
  exact congrArg (v.T d) (congrArg (ix2 · n) (Fin.ext (by show r.val / 64 * 64 + r.val % 64 = r.val; omega)))

/-- An entry of the result. -/
theorem result_apply (m : (ℓ : Loc nD τ sig) → Buf (Elt Ideal) ℓ) (c : Dev nD) (b : Fin 2) (i : Fin 128) (n : Fin 512) :
    result m c (ix3 b i n) = ∑ d : Dev nD, (vals m).T d (ix2 ⟨b.val * 128 + i.val, by omega⟩ n) := by
  rw [← fin_apply (vals m) c]
  unfold result
  generalize fin (vals m) c = X
  pointwise [k0_pay1]

end Cert.Total

end
-- ==== Proof.Value.lean ====
/-
  The kernel's result is the reference's: each device's product is its four heads' part of the reference's sum.
-/
module

public import proofs.«01_k».proof.Proof.Pay
public import proofs.«01_k».proof.Proof.Ref
public import proofs.«01_k».proof.Proof.Total
public import Idealize.ShloMosaic.Lib.Layout
public import Idealize.ShloMosaic.Lib.Pipeline.ValueKit.Geometry

@[expose] public section

noncomputable section

namespace Cert.Value

open Idealize.ShloMosaic Idealize.ShloMosaic.TcCoe
open Cert.KernelIdeal Cert.KernelIdeal.Gen Cert.KernelIdeal.Cross

variable (m : (ℓ : Loc nD τ sig) → Buf (Elt Ideal) ℓ)

theorem off_wq : ∀ c : Dev nD, k0_off1 c = ![0, c.val, 0] := by decide +kernel
theorem off_wo : ∀ c : Dev nD, k0_off2 c = ![c.val, 0, 0] := by decide +kernel

/-- Where an entry of the device's slice of the query weights lies in the reshaped weights. -/
theorem wq_slice (c : Dev nD) (Y : FVec Ideal S512x16x256 .f32) (p : Fin 512) (e : Fin 256) :
    (wqM c).view.read (Elt Ideal) Y (ix3 p 0 e) = Y (ix3 p ⟨c.val, c.isLt⟩ e) := by
  refine congrArg Y (funext fun a => Fin.ext ?_)
  show k0_off1 c a + 1 * ((ix3 p 0 e : S512x1x256.Idx) a).val = _
  rw [off_wq]
  match a with
  | ⟨0, _⟩ => show 0 + 1 * p.val = p.val; omega
  | ⟨1, _⟩ => show c.val + 1 * 0 = c.val; omega
  | ⟨2, _⟩ => show 0 + 1 * e.val = e.val; omega
/-- Where an entry of the device's slice of the output weights lies in the reshaped weights. -/
theorem wo_slice (c : Dev nD) (Y : FVec Ideal S16x256x512 .f32) (e : Fin 256) (n : Fin 512) :
    (woM c).view.read (Elt Ideal) Y (ix3 0 e n) = Y (ix3 ⟨c.val, c.isLt⟩ e n) := by
  refine congrArg Y (funext fun a => Fin.ext ?_)
  show k0_off2 c a + 1 * ((ix3 0 e n : S1x256x512.Idx) a).val = _
  rw [off_wo]
  match a with
  | ⟨0, _⟩ => show c.val + 1 * 0 = c.val; omega
  | ⟨1, _⟩ => show 0 + 1 * e.val = e.val; omega
  | ⟨2, _⟩ => show 0 + 1 * n.val = n.val; omega

theorem V_v1 (c : Dev nD) : V m c main_v1 = shapeCast S512x16x256 (m ((c : Thread nD τ).loc main_arg1)) shapeCasts_S512x4096_S512x16x256 := rfl
theorem V_v2 (c : Dev nD) : V m c main_v2 = shapeCast S16x256x512 (m ((c : Thread nD τ).loc main_arg4)) shapeCasts_S4096x512_S16x256x512 := rfl

/-- The reshaped output weights, from the whole ones. -/
theorem wo_cast (Y : FVec Ideal S4096x512 .f32) (c : Fin 16) (e : Fin 256) (n : Fin 512) :
    shapeCast S16x256x512 Y shapeCasts_S4096x512_S16x256x512 (ix3 c e n) = Y (ix2 ⟨c.val * 256 + e.val, by omega⟩ n) := by
  pointwise
/-- The device's query weights, from the whole ones. -/
theorem wq_apply (c : Dev nD) (p : Fin 512) (e : Fin 256) :
    (wqM c).view.read (Elt Ideal) (V m c main_v1) (ix3 p 0 e) = (m ((c : Thread nD τ).loc main_arg1) : FVec Ideal S512x4096 .f32) (ix2 p ⟨c.val * 256 + e.val, by have : c.val < 16 := c.isLt; omega⟩) := by
  rw [wq_slice, V_v1]
  generalize m ((c : Thread nD τ).loc main_arg1) = Y
  pointwise
/-- The device's output weights, from the whole ones. -/
theorem wo_apply (c : Dev nD) (e : Fin 256) (n : Fin 512) :
    (woM c).view.read (Elt Ideal) (V m c main_v2) (ix3 0 e n) = (m ((c : Thread nD τ).loc main_arg4) : FVec Ideal S4096x512 .f32) (ix2 ⟨c.val * 256 + e.val, by have : c.val < 16 := c.isLt; omega⟩ n) := by
  rw [wo_slice, V_v2]
  exact wo_cast _ _ _ _

theorem at_origin {w n i : Nat} (h : w = 0) : w * n + i = i := by rw [h, Nat.zero_mul, Nat.zero_add]

/-- Each input's one block is the whole array. -/
theorem iblk_x (c : Dev nD) : iblk m c 0 t0_0 = m ((c : Thread nD τ).loc main_arg0) := by
  rw [← V_main_arg0 m c]
  funext j
  blk_ext [iblk] <;> exact at_origin rfl
theorem iblk_k (c : Dev nD) : iblk m c 1 t0_0 = m ((c : Thread nD τ).loc main_arg2) := by
  rw [← V_main_arg2 m c]
  funext j
  blk_ext [iblk] <;> exact at_origin rfl
theorem iblk_v (c : Dev nD) : iblk m c 2 t0_0 = m ((c : Thread nD τ).loc main_arg3) := by
  rw [← V_main_arg3 m c]
  funext j
  blk_ext [iblk] <;> exact at_origin rfl

/-- Head `h` of device `c`, read in the whole array of heads. -/
theorem block_heads (X : FVec Ideal ⟨4, ![2, 128, 64, 64]⟩ .f32) (c : Fin 16) (b : Fin 2) (j : Fin 128) (h : Fin 4) (d : Fin 64) :
    Layout.block ⟨4, ![2, 128, 4, 64]⟩ ⟨4, ![2, 128, 64, 64]⟩ 2 16 c X (by decide) (ix4 b j h d) = X (ix4 b j ⟨c.val * 4 + h.val, by omega⟩ d) := by
  refine congrArg X (funext fun a => Fin.ext ?_)
  match a with
  | ⟨0, _⟩ => rfl
  | ⟨1, _⟩ => rfl
  | ⟨2, _⟩ => rfl
  | ⟨3, _⟩ => rfl

variable (X : FVec Ideal S2x128x512 .f32) (Wq : FVec Ideal S512x4096 .f32) (K W : FVec Ideal ⟨4, ![2, 128, 64, 64]⟩ .f32) (Wo : FVec Ideal S4096x512 .f32)

/-- An entry of a device's product: its four heads' part of the reference's sum. -/
theorem product (c : Dev nD) (hx : m ((c : Thread nD τ).loc main_arg0) = X) (hq : m ((c : Thread nD τ).loc main_arg1) = Wq)
    (hk : m ((c : Thread nD τ).loc main_arg2) = Layout.block ⟨4, ![2, 128, 4, 64]⟩ ⟨4, ![2, 128, 64, 64]⟩ 2 16 c K)
    (hv : m ((c : Thread nD τ).loc main_arg3) = Layout.block ⟨4, ![2, 128, 4, 64]⟩ ⟨4, ![2, 128, 64, 64]⟩ 2 16 c W)
    (ho : m ((c : Thread nD τ).loc main_arg4) = Wo) (b : Fin 2) (i : Fin 128) (n : Fin 512) :
    (vals m).T c (ix2 ⟨b.val * 128 + i.val, by omega⟩ n)
      = ∑ h : Fin 4, ∑ d : Fin 64, Cert.Ref.ctxOf X Wq K W b i ⟨c.val * 4 + h.val, by have : c.val < 16 := c.isLt; omega⟩ d
          * Wo (ix2 ⟨(c.val * 4 + h.val) * 64 + d.val, by have : c.val < 16 := c.isLt; omega⟩ n) := by
  have hc : c.val < 16 := c.isLt
  show tval (F := Ideal) (iblk m c 0 t0_0) ((wqM c).view.read (Elt Ideal) (V m c main_v1)) (iblk m c 1 t0_0) (iblk m c 2 t0_0)
    ((woM c).view.read (Elt Ideal) (V m c main_v2)) _ = _
  rw [iblk_x, iblk_k, iblk_v, hx, hk, hv]
  refine (Cert.Head.tval_apply _ _ _ _ _ b i n).trans (Finset.sum_congr rfl fun h _ => Finset.sum_congr rfl fun d _ => ?_)
  rw [wo_apply, ho]
  refine congrArg₂ (· * ·) ?_ (congrArg (fun r => Wo (ix2 r n)) (Fin.ext (by show c.val * 256 + (h.val * 64 + d.val) = (c.val * 4 + h.val) * 64 + d.val; omega)))
  unfold Cert.Ref.ctxOf
  congr 1
  · funext i d
    refine Finset.sum_congr rfl fun p _ => congrArg (X (ix3 b i p) * ·) ?_
    rw [wq_apply, hq]
    exact congrArg (fun r => Wq (ix2 p r)) (Fin.ext (by show c.val * 256 + (h.val * 64 + d.val) = (c.val * 4 + h.val) * 64 + d.val; omega))
  · funext j d; exact block_heads K c b j h d
  · funext j d; exact block_heads W c b j h d

/-- Every device's result is the reference's. -/
theorem result_eq (hx : ∀ c : Dev nD, m ((c : Thread nD τ).loc main_arg0) = X) (hq : ∀ c : Dev nD, m ((c : Thread nD τ).loc main_arg1) = Wq)
    (hk : ∀ c : Dev nD, m ((c : Thread nD τ).loc main_arg2) = Layout.block ⟨4, ![2, 128, 4, 64]⟩ ⟨4, ![2, 128, 64, 64]⟩ 2 16 c K)
    (hv : ∀ c : Dev nD, m ((c : Thread nD τ).loc main_arg3) = Layout.block ⟨4, ![2, 128, 4, 64]⟩ ⟨4, ![2, 128, 64, 64]⟩ 2 16 c W)
    (ho : ∀ c : Dev nD, m ((c : Thread nD τ).loc main_arg4) = Wo) (c : Dev nD) : result m c = Cert.Ref.rOut X Wq K W Wo := by
  funext y
  idx_vars y
  rw [Total.result_apply, Cert.Ref.rOut_apply, Fin.sum_univ_tiles 16 4 rfl]
  exact Finset.sum_congr rfl fun d _ => product m X Wq K W Wo d (hx d) (hq d) (hk d) (hv d) (ho d) _ _ _

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Same
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

/-- The kernel over the reals ends on every device, its arguments unchanged and every semaphore at zero. -/
theorem frame_kernel_ideal : Cert.quiescent_KernelIdeal := fun m ρ _ =>
  (θ_run Cert.KernelIdeal.defs _ _).mono (fun _ h => ⟨fun c => (h.1 c).2, h.2⟩) (Cert.KernelIdeal.Cross.run_main (F := Ideal) m ρ)

/-- The same of the reference, which has no semaphore. -/
theorem frame_reference : Cert.quiescent_ReferenceIdeal := fun m ρ _ =>
  (θ_run Cert.ReferenceIdeal.defs _ _).mono (fun r h => ⟨fun c => (h c).2, sem_eq_zero_of_no_sems rfl r.2⟩) (Cert.ReferenceIdeal.Value.run (F := Ideal) m ρ)

/-- From the same arguments, every device of the kernel ends with the reference's result. -/
theorem algebraic : Cert.algebraic_KernelIdeal_ReferenceIdeal := fun m ρ m' ρ' _ hin => by
  refine ⟨Cert.ReferenceIdeal.Value.res_main_v34 m' 0, ?_, ?_⟩
  · refine (θ_run Cert.KernelIdeal.defs _ _).mono (fun _ h c => ⟨(h.1 c).1.trans ?_, (h.1 c).2⟩) (Cert.KernelIdeal.Cross.run_main (F := Ideal) m ρ)
    rw [Cert.Ref.res_eq]
    exact Cert.Value.result_eq m _ _ _ _ _ (fun d => (hin d).1) (fun d => (hin d).2.1) (fun d => (hin d).2.2.1) (fun d => (hin d).2.2.2.1) (fun d => (hin d).2.2.2.2) c
  · exact (θ_run Cert.ReferenceIdeal.defs _ _).mono (fun _ h => h 0) (Cert.ReferenceIdeal.Value.run (F := Ideal) m' ρ')

theorem claim : Cert.Claim := ⟨Cert.Kernel.Gen.facts, Cert.KernelIdeal.Gen.facts, Cert.ReferenceIdeal.Gen.facts,
  Cert.Same.frame_kernel, frame_kernel_ideal, frame_reference, trivial, algebraic⟩

end Cert.Proof

end
